-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_qk_c [hPre_finite_qk_c : Cert.Pre_finite_qk_c.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_qk_c.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_qk_c [hPre_finite_qk_c : Cert.Pre_finite_qk_c.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qk_c.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_qk_c [hPre_finite_qk_c : Cert.Pre_finite_qk_c.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_qk_c.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_qk [hPre_finite_qk : Cert.Pre_finite_qk.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_qk.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_qk_c [hKernel3Ideal : Cert.Kernel3Ideal.Facts] [hPre_finite_qk_c : Cert.Pre_finite_qk_c.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_qk_c m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_qk_c [hReference3Ideal : Cert.Reference3Ideal.Facts] [hPre_finite_qk_c : Cert.Pre_finite_qk_c.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qk_c m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_qk_c [hKernel6Ideal : Cert.Kernel6Ideal.Facts] [hPre_finite_qk_c : Cert.Pre_finite_qk_c.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_qk_c m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_qk [hKernel7Ideal : Cert.Kernel7Ideal.Facts] [hPre_finite_qk : Cert.Pre_finite_qk.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_qk m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_qk_c [hKernel3Ideal : Cert.Kernel3Ideal.Facts] [hReference3Ideal : Cert.Reference3Ideal.Facts] [hPre_finite_qk_c : Cert.Pre_finite_qk_c.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_qk_c m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v8) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference3Ideal_pre_finite_qk_c [hKernel6Ideal : Cert.Kernel6Ideal.Facts] [hReference3Ideal : Cert.Reference3Ideal.Facts] [hPre_finite_qk_c : Cert.Pre_finite_qk_c.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel6Ideal_finite_qk_c m →
    (∀ c : Dev Cert.Kernel6Ideal.nD,
      m' ((c.tc : Thread Cert.Reference3Ideal.nD Cert.Reference3Ideal.τ).loc Cert.Reference3Ideal.main_arg0) = m ((c.tc : Thread Cert.Kernel6Ideal.nD Cert.Kernel6Ideal.τ).loc Cert.Kernel6Ideal.main_arg0)
      ∧ m' ((c.tc : Thread Cert.Reference3Ideal.nD Cert.Reference3Ideal.τ).loc Cert.Reference3Ideal.main_arg1) = m ((c.tc : Thread Cert.Kernel6Ideal.nD Cert.Kernel6Ideal.τ).loc Cert.Kernel6Ideal.main_arg1)
      ∧ m' ((c.tc : Thread Cert.Reference3Ideal.nD Cert.Reference3Ideal.τ).loc Cert.Reference3Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel7_Kernel7Ideal : Prop :=
  True

def algebraic_Kernel7Ideal_ReferenceIdeal_pre_finite_qk [hKernel7Ideal : Cert.Kernel7Ideal.Facts] [hReferenceIdeal : Cert.ReferenceIdeal.Facts] [hPre_finite_qk : Cert.Pre_finite_qk.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_Kernel7Ideal_finite_qk m →
    (∀ c : Dev Cert.Kernel7Ideal.nD,
      m' ((c.tc : Thread Cert.ReferenceIdeal.nD Cert.ReferenceIdeal.τ).loc Cert.ReferenceIdeal.main_arg0) = m ((c.tc : Thread Cert.Kernel7Ideal.nD Cert.Kernel7Ideal.τ).loc Cert.Kernel7Ideal.main_arg0)
      ∧ m' ((c.tc : Thread Cert.ReferenceIdeal.nD Cert.ReferenceIdeal.τ).loc Cert.ReferenceIdeal.main_arg1) = m ((c.tc : Thread Cert.Kernel7Ideal.nD Cert.Kernel7Ideal.τ).loc Cert.Kernel7Ideal.main_arg1)
      ∧ m' ((c.tc : Thread Cert.ReferenceIdeal.nD Cert.ReferenceIdeal.τ).loc Cert.ReferenceIdeal.main_arg2) = m ((c.tc : Thread Cert.Kernel7Ideal.nD Cert.Kernel7Ideal.τ).loc Cert.Kernel7Ideal.main_arg2)
      ∧ m' ((c.tc : Thread Cert.ReferenceIdeal.nD Cert.ReferenceIdeal.τ).loc Cert.ReferenceIdeal.main_arg3) = m ((c.tc : Thread Cert.Kernel7Ideal.nD Cert.Kernel7Ideal.τ).loc Cert.Kernel7Ideal.main_arg3)
      ∧ m' ((c.tc : Thread Cert.ReferenceIdeal.nD Cert.ReferenceIdeal.τ).loc Cert.ReferenceIdeal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hKernel7 : Cert.Kernel7.Facts) (hKernel7Ideal : Cert.Kernel7Ideal.Facts) (hPre_finite_qk : Cert.Pre_finite_qk.Facts) (hPre_finite_qk_c : Cert.Pre_finite_qk_c.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_qk_c (hKernel3Ideal := hKernel3Ideal) (hPre_finite_qk_c := hPre_finite_qk_c)
    ∧ quiescent_Reference3Ideal (hReference3Ideal := hReference3Ideal)
    ∧ quiescent_Reference3Ideal_pre_finite_qk_c (hReference3Ideal := hReference3Ideal) (hPre_finite_qk_c := hPre_finite_qk_c)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_qk_c (hKernel6Ideal := hKernel6Ideal) (hPre_finite_qk_c := hPre_finite_qk_c)
    ∧ quiescent_Kernel7 (hKernel7 := hKernel7)
    ∧ quiescent_Kernel7Ideal (hKernel7Ideal := hKernel7Ideal)
    ∧ quiescent_Kernel7Ideal_pre_finite_qk (hKernel7Ideal := hKernel7Ideal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_qk_c (hKernel3Ideal := hKernel3Ideal) (hReference3Ideal := hReference3Ideal) (hPre_finite_qk_c := hPre_finite_qk_c)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference3Ideal_pre_finite_qk_c (hKernel6Ideal := hKernel6Ideal) (hReference3Ideal := hReference3Ideal) (hPre_finite_qk_c := hPre_finite_qk_c)
    ∧ preserves_Kernel7_Kernel7Ideal
    ∧ algebraic_Kernel7Ideal_ReferenceIdeal_pre_finite_qk (hKernel7Ideal := hKernel7Ideal) (hReferenceIdeal := hReferenceIdeal) (hPre_finite_qk := hPre_finite_qk)
-- ==== Pre_finite_qk.lean ====
abbrev S49152x512 : Shape := ⟨2, ![49152, 512]⟩
abbrev S4x64 : Shape := ⟨2, ![4, 64]⟩
abbrev S1x128 : Shape := ⟨2, ![1, 128]⟩
abbrev S_ : Shape := ⟨0, ![]⟩

class Facts : Prop where
  bitsLt_bf16_f32 : FTy.bits .bf16 < FTy.bits .f32
  bcast_S_S49152x512 : S_.BroadcastsInDim S49152x512 (![] : Fin 0 → Fin S49152x512.rank)

variable [Facts]

def fn {F : FTy → Type} [FloatOps F] (main_arg0 : FVec F S49152x512 .bf16) (main_arg1 : FVec F S49152x512 .bf16) (main_arg2 : FVec F S49152x512 .bf16) (main_arg3 : FVec F S4x64 .f32) (main_arg4 : FVec F S1x128 .f32) : IVec S49152x512 1 :=
  let main_v0 : FVec F S49152x512 .f32 := (extf .f32 · bitsLt_bf16_f32) main_arg0
  let main_v1 : FVec F S49152x512 .f32 := Host.absf main_v0
  let main_cst : FVec F S_ .f32 := constant S_ .f32 0x7F800000#32
  let main_v2 : FVec F S49152x512 .f32 := broadcastInDim S49152x512 ![] bcast_S_S49152x512 main_cst
  let main_v3 : IVec S49152x512 1 := cmpf .olt main_v1 main_v2
  let main_v4 : FVec F S49152x512 .f32 := (extf .f32 · bitsLt_bf16_f32) main_arg1
  let main_v5 : FVec F S49152x512 .f32 := Host.absf main_v4
  let main_cst_0 : FVec F S_ .f32 := constant S_ .f32 0x7F800000#32
  let main_v6 : FVec F S49152x512 .f32 := broadcastInDim S49152x512 ![] bcast_S_S49152x512 main_cst_0
  let main_v7 : IVec S49152x512 1 := cmpf .olt main_v5 main_v6
  let main_v8 : IVec S49152x512 1 := andi main_v3 main_v7
  main_v8
-- ==== Pre_finite_qk_c.lean ====
abbrev S49152x1024 : Shape := ⟨2, ![49152, 1024]⟩
abbrev S49152x512 : Shape := ⟨2, ![49152, 512]⟩
abbrev S_ : Shape := ⟨0, ![]⟩

class Facts : Prop where
  bitsLt_bf16_f32 : FTy.bits .bf16 < FTy.bits .f32
  bcast_S_S49152x1024 : S_.BroadcastsInDim S49152x1024 (![] : Fin 0 → Fin S49152x1024.rank)

variable [Facts]

def fn {F : FTy → Type} [FloatOps F] (main_arg0 : FVec F S49152x1024 .bf16) (main_arg1 : FVec F S49152x1024 .bf16) (main_arg2 : FVec F S49152x512 .bf16) : IVec S49152x1024 1 :=
  let main_v0 : FVec F S49152x1024 .f32 := (extf .f32 · bitsLt_bf16_f32) main_arg0
  let main_v1 : FVec F S49152x1024 .f32 := Host.absf main_v0
  let main_cst : FVec F S_ .f32 := constant S_ .f32 0x7F800000#32
  let main_v2 : FVec F S49152x1024 .f32 := broadcastInDim S49152x1024 ![] bcast_S_S49152x1024 main_cst
  let main_v3 : IVec S49152x1024 1 := cmpf .olt main_v1 main_v2
  let main_v4 : FVec F S49152x1024 .f32 := (extf .f32 · bitsLt_bf16_f32) main_arg1
  let main_v5 : FVec F S49152x1024 .f32 := Host.absf main_v4
  let main_cst_0 : FVec F S_ .f32 := constant S_ .f32 0x7F800000#32
  let main_v6 : FVec F S49152x1024 .f32 := broadcastInDim S49152x1024 ![] bcast_S_S49152x1024 main_cst_0
  let main_v7 : IVec S49152x1024 1 := cmpf .olt main_v5 main_v6
  let main_v8 : IVec S49152x1024 1 := andi main_v3 main_v7
  main_v8
-- ==== Kernel.lean ====
abbrev S49152x512 : Shape := ⟨2, ![49152, 512]⟩
abbrev S4x64 : Shape := ⟨2, ![4, 64]⟩
abbrev S1x128 : Shape := ⟨2, ![1, 128]⟩
abbrev S256x512 : Shape := ⟨2, ![256, 512]⟩
abbrev S4096x512 : Shape := ⟨2, ![4096, 512]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S49152x512, .bf16⟩
  | .hbm, ⟨1, _⟩ => ⟨S49152x512, .bf16⟩
  | .hbm, ⟨2, _⟩ => ⟨S49152x512, .bf16⟩
  | .hbm, ⟨3, _⟩ => ⟨S4x64, .f32⟩
  | .hbm, ⟨4, _⟩ => ⟨S1x128, .f32⟩
  | .hbm, ⟨5, _⟩ => ⟨S49152x512, .bf16⟩
  | .local _ .vmem, ⟨0, _⟩ => ⟨S4x64, .f32⟩
  | .local _ .vmem, ⟨1, _⟩ => ⟨S256x512, .bf16⟩
  | .local _ .vmem, ⟨2, _⟩ => ⟨S256x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | _, _ => ⟨S49152x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![12, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S49152x512 : Shape := ⟨2, ![49152, 512]⟩
abbrev S4x64 : Shape := ⟨2, ![4, 64]⟩
abbrev S1x128 : Shape := ⟨2, ![1, 128]⟩
abbrev S12x4096x4x2x64 : Shape := ⟨5, ![12, 4096, 4, 2, 64]⟩
abbrev S12x4096x4x128 : Shape := ⟨4, ![12, 4096, 4, 128]⟩
abbrev S1x64 : Shape := ⟨2, ![1, 64]⟩
abbrev S64 : Shape := ⟨1, ![64]⟩
abbrev S_ : Shape := ⟨0, ![]⟩
abbrev S12x4x2x4096x4096 : Shape := ⟨5, ![12, 4, 2, 4096, 4096]⟩
abbrev S12x4x2x4096 : Shape := ⟨4, ![12, 4, 2, 4096]⟩
abbrev S12x4x2x4096x1 : Shape := ⟨5, ![12, 4, 2, 4096, 1]⟩
abbrev S12x4x1x4096x4096 : Shape := ⟨5, ![12, 4, 1, 4096, 4096]⟩
abbrev S12x4x4096x4096 : Shape := ⟨4, ![12, 4, 4096, 4096]⟩
abbrev S12x4x128x4096 : Shape := ⟨4, ![12, 4, 128, 4096]⟩
abbrev S128 : Shape := ⟨1, ![128]⟩
abbrev S12x4096x4 : Shape := ⟨3, ![12, 4096, 4]⟩
abbrev S12x4096x4x1 : Shape := ⟨4, ![12, 4096, 4, 1]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S49152x512, .bf16⟩
  | .hbm, ⟨1, _⟩ => ⟨S49152x512, .bf16⟩
  | .hbm, ⟨2, _⟩ => ⟨S49152x512, .bf16⟩
  | .hbm, ⟨3, _⟩ => ⟨S4x64, .f32⟩
  | .hbm, ⟨4, _⟩ => ⟨S1x128, .f32⟩
  | .hbm, ⟨5, _⟩ => ⟨S49152x512, .f32⟩
  | .hbm, ⟨6, _⟩ => ⟨S12x4096x4x2x64, .f32⟩
  | .hbm, ⟨7, _⟩ => ⟨S49152x512, .f32⟩
  | .hbm, ⟨8, _⟩ => ⟨S12x4096x4x2x64, .f32⟩
  | .hbm, ⟨9, _⟩ => ⟨S49152x512, .f32⟩
  | .hbm, ⟨10, _⟩ => ⟨S12x4096x4x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S12x4x2x4096x4096, .f32⟩
  | .hbm, ⟨31, _⟩ => ⟨S_, .f32⟩
  | .hbm, ⟨32, _⟩ => ⟨S_, .f32⟩
  | .hbm, ⟨33, _⟩ => ⟨S12x4x2x4096x4096, .f32⟩
  | .hbm, ⟨34, _⟩ => ⟨S12x4x2x4096x4096, .f32⟩
  | .hbm, ⟨35, _⟩ => ⟨S_, .f32⟩
  | .hbm, ⟨36, _⟩ => ⟨S12x4x2x4096, .f32⟩
  | .hbm, ⟨37, _⟩ => ⟨S_, .f32⟩
  | .hbm, ⟨38, _⟩ => ⟨S12x4x2x4096, .f32⟩
  | .hbm, ⟨39, _⟩ => ⟨S12x4x2x4096, .f32⟩
  | .hbm, ⟨40, _⟩ => ⟨S12x4x2x4096x1, .f32⟩
  | .hbm, ⟨41, _⟩ => ⟨S12x4x2x4096x4096, .f32⟩
  | .hbm, ⟨42, _⟩ => ⟨S12x4x2x4096x4096, .f32⟩
  | .hbm, ⟨43, _⟩ => ⟨S12x4x2x4096x4096, .f32⟩
  | .hbm, ⟨44, _⟩ => ⟨S_, .f32⟩
  | .hbm, ⟨45, _⟩ => ⟨S12x4x2x4096, .f32⟩
  | .hbm, ⟨46, _⟩ => ⟨S12x4x2x4096x1, .f32⟩
  | .hbm, ⟨47, _⟩ => ⟨S12x4x2x4096x4096, .f32⟩
  | .hbm, ⟨48, _⟩ => ⟨S12x4x2x4096x4096, .f32⟩
  | .hbm, ⟨49, _⟩ => ⟨S12x4x1x4096x4096, .f32⟩
  | .hbm, ⟨50, _⟩ => ⟨S12x4x4096x4096, .f32⟩
  | .hbm, ⟨51, _⟩ => ⟨S12x4x1x4096x4096, .f32⟩
  | .hbm, ⟨52, _⟩ => ⟨S12x4x4096x4096, .f32⟩
  | .hbm, ⟨53, _⟩ => ⟨S12x4x4096x4096, .f32⟩
  | .hbm, ⟨54, _⟩ => ⟨S12x4x4096x4096, .f32⟩
  | .hbm, ⟨55, _⟩ => ⟨S12x4x4096x4096, .f32⟩
  | .hbm, ⟨56, _⟩ => ⟨S12x4x128x4096, .f32⟩
  | .hbm, ⟨57, _⟩ => ⟨S12x4096x4x128, .f32⟩
  | .hbm, ⟨58, _⟩ => ⟨S128, .f32⟩
  | .hbm, ⟨59, _⟩ => ⟨S12x4096x4x128, .f32⟩
  | .hbm, ⟨60, _⟩ => ⟨S_, .f32⟩
  | .hbm, ⟨61, _⟩ => ⟨S12x4096x4, .f32⟩
  | .hbm, ⟨62, _⟩ => ⟨S12x4096x4x1, .f32⟩
  | .hbm, ⟨63, _⟩ => ⟨S_, .f32⟩
  | .hbm, ⟨64, _⟩ => ⟨S12x4096x4x1, .f32⟩
  | .hbm, ⟨65, _⟩ => ⟨S12x4096x4x1, .f32⟩
  | .hbm, ⟨66, _⟩ => ⟨S_, .f32⟩
  | .hbm, ⟨67, _⟩ => ⟨S12x4096x4x1, .f32⟩
  | .hbm, ⟨68, _⟩ => ⟨S12x4096x4x1, .f32⟩
  | .hbm, ⟨69, _⟩ => ⟨S12x4096x4x1, .f32⟩
  | .hbm, ⟨70, _⟩ => ⟨S12x4096x4x128, .f32⟩
  | .hbm, ⟨71, _⟩ => ⟨S12x4096x4x128, .f32⟩
  | .hbm, ⟨72, _⟩ => ⟨S1x1x1x128, .f32⟩
  | .hbm, ⟨73, _⟩ => ⟨S12x4096x4x128, .f32⟩
  | .hbm, ⟨74, _⟩ => ⟨S12x4096x4x128, .f32⟩
  | .hbm, ⟨75, _⟩ => ⟨S_, .f32⟩
  | .hbm, ⟨76, _⟩ => ⟨S12x4096x4x128, .f32⟩
  | .hbm, ⟨77, _⟩ => ⟨S12x4096x4x128, .f32⟩
  | .hbm, ⟨78, _⟩ => ⟨S49152x512, .f32⟩
  | .hbm, ⟨79, _⟩ => ⟨S49152x512, .bf16⟩
  | _, _ => ⟨S49152x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel2.lean ====
abbrev S49152x1024 : Shape := ⟨2, ![49152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 12
  | .vmem => 8
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S49152x1024 : Shape := ⟨2, ![49152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S1x1024x2816 : Shape := ⟨3, ![1, 1024, 2816]⟩
abbrev S1024x2816 : Shape := ⟨2, ![1024, 2816]⟩
abbrev S49152x2816 : Shape := ⟨2, ![49152, 2816]⟩
abbrev S1x2816x1024 : Shape := ⟨3, ![1, 2816, 1024]⟩
abbrev S2816x1024 : Shape := ⟨2, ![2816, 1024]⟩

abbrev nBuf : Space → Nat
  | .hbm => 43
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S49152x1024, .f32⟩
  | .hbm, ⟨8, _⟩ => ⟨S_, .f32⟩
  | .hbm, ⟨9, _⟩ => ⟨S49152, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S_, .f32⟩
  | .hbm, ⟨15, _⟩ => ⟨S49152x1, .f32⟩
  | .hbm, ⟨16, _⟩ => ⟨S49152x1, .f32⟩
  | .hbm, ⟨17, _⟩ => ⟨S49152x1, .f32⟩
  | .hbm, ⟨18, _⟩ => ⟨S49152x1024, .f32⟩
  | .hbm, ⟨19, _⟩ => ⟨S49152x1024, .f32⟩
  | .hbm, ⟨20, _⟩ => ⟨S1x1024, .f32⟩
  | .hbm, ⟨21, _⟩ => ⟨S49152x1024, .f32⟩
  | .hbm, ⟨22, _⟩ => ⟨S49152x1024, .f32⟩
  | .hbm, ⟨23, _⟩ => ⟨S1x1024x2816, .f32⟩
  | .hbm, ⟨24, _⟩ => ⟨S1024x2816, .f32⟩
  | .hbm, ⟨25, _⟩ => ⟨S49152x2816, .f32⟩
  | .hbm, ⟨26, _⟩ => ⟨S49152x2816, .f32⟩
  | .hbm, ⟨27, _⟩ => ⟨S49152x2816, .f32⟩
  | .hbm, ⟨28, _⟩ => ⟨S_, .f32⟩
  | .hbm, ⟨29, _⟩ => ⟨S49152x2816, .f32⟩
  | .hbm, ⟨30, _⟩ => ⟨S49152x2816, .f32⟩
  | .hbm, ⟨31, _⟩ => ⟨S_, .f32⟩
  | .hbm, ⟨32, _⟩ => ⟨S49152x2816, .f32⟩
  | .hbm, ⟨33, _⟩ => ⟨S49152x2816, .f32⟩
  | .hbm, ⟨34, _⟩ => ⟨S49152x2816, .f32⟩
  | .hbm, ⟨35, _⟩ => ⟨S1x1024x2816, .f32⟩
  | .hbm, ⟨36, _⟩ => ⟨S1024x2816, .f32⟩
  | .hbm, ⟨37, _⟩ => ⟨S49152x2816, .f32⟩
  | .hbm, ⟨38, _⟩ => ⟨S49152x2816, .f32⟩
  | .hbm, ⟨39, _⟩ => ⟨S1x2816x1024, .f32⟩
  | .hbm, ⟨40, _⟩ => ⟨S2816x1024, .f32⟩
  | .hbm, ⟨41, _⟩ => ⟨S49152x1024, .f32⟩
  | .hbm, ⟨42, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel3.lean ====
abbrev S49152x1024 : Shape := ⟨2, ![49152, 1024]⟩
abbrev S49152x512 : Shape := ⟨2, ![49152, 512]⟩
abbrev S256x512 : Shape := ⟨2, ![256, 512]⟩
abbrev S4096x512 : Shape := ⟨2, ![4096, 512]⟩
abbrev S4096x256 : Shape := ⟨2, ![4096, 256]⟩
abbrev S256x256 : Shape := ⟨2, ![256, 256]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S49152x1024, .bf16⟩
  | .hbm, ⟨1, _⟩ => ⟨S49152x1024, .bf16⟩
  | .hbm, ⟨2, _⟩ => ⟨S49152x512, .bf16⟩
  | .hbm, ⟨3, _⟩ => ⟨S49152x512, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S49152x1024 : Shape := ⟨2, ![49152, 1024]⟩
abbrev S49152x512 : Shape := ⟨2, ![49152, 512]⟩
abbrev S12x4096x8x128 : Shape := ⟨4, ![12, 4096, 8, 128]⟩
abbrev S12x4096x8x64 : Shape := ⟨4, ![12, 4096, 8, 64]⟩
abbrev S12x8x4096x4096 : Shape := ⟨4, ![12, 8, 4096, 4096]⟩
abbrev S_ : Shape := ⟨0, ![]⟩
abbrev S12x8x4096 : Shape := ⟨3, ![12, 8, 4096]⟩
abbrev S12x8x4096x1 : Shape := ⟨4, ![12, 8, 4096, 1]⟩
abbrev S12x8x64x4096 : Shape := ⟨4, ![12, 8, 64, 4096]⟩

abbrev nBuf : Space → Nat
  | .hbm => 32
  | .vmem => 0
  | .smem => 0
  | _ => 0

abbrev bufTy : (tb : Table) → Fin (tcTables nBuf tb) → BufTy
  | .hbm, ⟨0, _⟩ => ⟨S49152x1024, .bf16⟩
  | .hbm, ⟨1, _⟩ => ⟨S49152x1024, .bf16⟩
  | .hbm, ⟨2, _⟩ => ⟨S49152x512, .bf16⟩
  | .hbm, ⟨3, _⟩ => ⟨S49152x1024, .f32⟩
  | .hbm, ⟨4, _⟩ => ⟨S12x4096x8x128, .f32⟩
  | .hbm, ⟨5, _⟩ => ⟨S49152x1024, .f32⟩
  | .hbm, ⟨6, _⟩ => ⟨S12x4096x8x128, .f32⟩
  | .hbm, ⟨7, _⟩ => ⟨S49152x512, .f32⟩
  | .hbm, ⟨8, _⟩ => ⟨S12x4096x8x64, .f32⟩
  | .hbm, ⟨9, _⟩ => ⟨S12x8x4096x4096, .f32⟩
  | .hbm, ⟨10, _⟩ => ⟨S_, .f32⟩
  | .hbm, ⟨11, _⟩ => ⟨S_, .f32⟩
  | .hbm, ⟨12, _⟩ => ⟨S12x8x4096x4096, .f32⟩
  | .hbm, ⟨13, _⟩ => ⟨S12x8x4096x4096, .f32⟩
  | .hbm, ⟨14, _⟩ => ⟨S_, .f32⟩
  | .hbm, ⟨15, _⟩ => ⟨S12x8x4096, .f32⟩
  | .hbm, ⟨16, _⟩ => ⟨S_, .f32⟩
  | .hbm, ⟨17, _⟩ => ⟨S12x8x4096, .f32⟩
  | .hbm, ⟨18, _⟩ => ⟨S12x8x4096, .f32⟩
  | .hbm, ⟨19, _⟩ => ⟨S12x8x4096x1, .f32⟩
  | .hbm, ⟨20, _⟩ => ⟨S12x8x4096x4096, .f32⟩
  | .hbm, ⟨21, _⟩ => ⟨S12x8x4096x4096, .f32⟩
  | .hbm, ⟨22, _⟩ => ⟨S12x8x4096x4096, .f32⟩
  | .hbm, ⟨23, _⟩ => ⟨S_, .f32⟩
  | .hbm, ⟨24, _⟩ => ⟨S12x8x4096, .f32⟩
  | .hbm, ⟨25, _⟩ => ⟨S12x8x4096x1, .f32⟩
  | .hbm, ⟨26, _⟩ => ⟨S12x8x4096x4096, .f32⟩
  | .hbm, ⟨27, _⟩ => ⟨S12x8x4096x4096, .f32⟩
  | .hbm, ⟨28, _⟩ => ⟨S12x8x64x4096, .f32⟩
  | .hbm, ⟨29, _⟩ => ⟨S12x4096x8x64, .f32⟩
  | .hbm, ⟨30, _⟩ => ⟨S49152x512, .f32⟩
  | .hbm, ⟨31, _⟩ => ⟨S49152x512, .bf16⟩
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel4.lean ====
abbrev S49152x1024 : Shape := ⟨2, ![49152, 1024]⟩
abbrev S2x1024 : Shape := ⟨2, ![2, 1024]⟩
abbrev S2x1024x4096 : Shape := ⟨3, ![2, 1024, 4096]⟩
abbrev S49152x512 : Shape := ⟨2, ![49152, 512]⟩
abbrev S49152x256 : Shape := ⟨2, ![49152, 256]⟩
abbrev S12x4x1024x256 : Shape := ⟨4, ![12, 4, 1024, 256]⟩
abbrev S12x16x256x256 : Shape := ⟨4, ![12, 16, 256, 256]⟩
abbrev S2x512x1024 : Shape := ⟨3, ![2, 512, 1024]⟩
abbrev S2x256x1024 : Shape := ⟨3, ![2, 256, 1024]⟩
abbrev S2x1024x1024 : Shape := ⟨3, ![2, 1024, 1024]⟩
abbrev S1x1024 : Shape := ⟨2, ![1, 1024]⟩
abbrev S1024 : Shape := ⟨1, ![1024]⟩
abbrev S512x1024 : Shape := ⟨2, ![512, 1024]⟩
abbrev S1x1024x4096 : Shape := ⟨3, ![1, 1024, 4096]⟩
abbrev S512x512 : Shape := ⟨2, ![512, 512]⟩
abbrev S512x256 : Shape := ⟨2, ![512, 256]⟩
abbrev S1x4x128x256 : Shape := ⟨4, ![1, 4, 128, 256]⟩
abbrev S1x16x32x256 : Shape := ⟨4, ![1, 16, 32, 256]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S2x512x128 : Shape := ⟨3, ![2, 512, 128]⟩
abbrev S512 : Shape := ⟨1, ![512]⟩
abbrev S512x1 : Shape := ⟨2, ![512, 1]⟩
abbrev S1x1x128x128 : Shape := ⟨4, ![1, 1, 128, 128]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S1x1x32x128 : Shape := ⟨4, ![1, 1, 32, 128]⟩
abbrev S32x128 : Shape := ⟨2, ![32, 128]⟩
abbrev S1x32x128 : Shape := ⟨3, ![1, 32, 128]⟩
abbrev S1024x1024 : Shape := ⟨2, ![1024, 1024]⟩
abbrev S256x1024 : Shape := ⟨2, ![256, 1024]⟩

abbrev nBuf : Space → Nat
  | .hbm => 27
  | .vmem => 33
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S2x1024x4096, .f32⟩
  | .hbm, ⟨3, _⟩ => ⟨S49152x512, .bf16⟩
  | .hbm, ⟨4, _⟩ => ⟨S49152x256, .f32⟩
  | .hbm, ⟨5, _⟩ => ⟨S12x4x1024x256, .f32⟩
  | .hbm, ⟨6, _⟩ => ⟨S12x16x256x256, .f32⟩
  | .hbm, ⟨7, _⟩ => ⟨S49152x256, .f32⟩
  | .hbm, ⟨8, _⟩ => ⟨S12x4x1024x256, .f32⟩
  | .hbm, ⟨9, _⟩ => ⟨S12x16x256x256, .f32⟩
  | .hbm, ⟨10, _⟩ => ⟨S49152x512, .bf16⟩
  | .hbm, ⟨11, _⟩ => ⟨S49152x512, .bf16⟩
  | .hbm, ⟨12, _⟩ => ⟨S2x512x1024, .f32⟩
  | .hbm, ⟨13, _⟩ => ⟨S2x256x1024, .f32⟩
  | .hbm, ⟨14, _⟩ => ⟨S2x512x1024, .f32⟩
  | .hbm, ⟨15, _⟩ => ⟨S2x512x1024, .f32⟩
  | .hbm, ⟨16, _⟩ => ⟨S2x1024x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S2x1024x4096, .bf16⟩
  | .hbm, ⟨21, _⟩ => ⟨S2x512x1024, .bf16⟩
  | .hbm, ⟨22, _⟩ => ⟨S2x256x1024, .bf16⟩
  | .hbm, ⟨23, _⟩ => ⟨S2x512x1024, .bf16⟩
  | .hbm, ⟨24, _⟩ => ⟨S2x512x1024, .bf16⟩
  | .hbm, ⟨25, _⟩ => ⟨S2x1024x1024, .bf16⟩
  | .hbm, ⟨26, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S1x4x128x256, .f32⟩
  | .local _ .vmem, ⟨9, _⟩ => ⟨S1x4x128x256, .f32⟩
  | .local _ .vmem, ⟨10, _⟩ => ⟨S1x16x32x256, .f32⟩
  | .local _ .vmem, ⟨11, _⟩ => ⟨S1x16x32x256, .f32⟩
  | .local _ .vmem, ⟨12, _⟩ => ⟨S512x256, .f32⟩
  | .local _ .vmem, ⟨13, _⟩ => ⟨S512x256, .f32⟩
  | .local _ .vmem, ⟨14, _⟩ => ⟨S1x4x128x256, .f32⟩
  | .local _ .vmem, ⟨15, _⟩ => ⟨S1x4x128x256, .f32⟩
  | .local _ .vmem, ⟨16, _⟩ => ⟨S1x16x32x256, .f32⟩
  | .local _ .vmem, ⟨17, _⟩ => ⟨S1x16x32x256, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x512x1024, .bf16⟩
  | .local _ .vmem, ⟨23, _⟩ => ⟨S1x256x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x1024x1024, .bf16⟩
  | .local _ .vmem, ⟨27, _⟩ => ⟨S512x1024, .f32⟩
  | .local _ .vmem, ⟨28, _⟩ => ⟨S512x1024, .f32⟩
  | .local _ .vmem, ⟨29, _⟩ => ⟨S2x512x128, .f32⟩
  | .local _ .vmem, ⟨30, _⟩ => ⟨S2x512x128, .f32⟩
  | .local _ .vmem, ⟨31, _⟩ => ⟨S2x512x128, .f32⟩
  | .local _ .vmem, ⟨32, _⟩ => ⟨S2x512x128, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S49152x1024 : Shape := ⟨2, ![49152, 1024]⟩
abbrev S2x1024 : Shape := ⟨2, ![2, 1024]⟩
abbrev S2x1024x4096 : Shape := ⟨3, ![2, 1024, 4096]⟩
abbrev S49152x512 : Shape := ⟨2, ![49152, 512]⟩
abbrev S49152x256 : Shape := ⟨2, ![49152, 256]⟩
abbrev S12x4x1024x256 : Shape := ⟨4, ![12, 4, 1024, 256]⟩
abbrev S12x16x256x256 : Shape := ⟨4, ![12, 16, 256, 256]⟩
abbrev S2x512x1024 : Shape := ⟨3, ![2, 512, 1024]⟩
abbrev S2x256x1024 : Shape := ⟨3, ![2, 256, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S12x1024x4x256 : Shape := ⟨4, ![12, 1024, 4, 256]⟩
abbrev S12x256x16x256 : Shape := ⟨4, ![12, 256, 16, 256]⟩
abbrev S1x49152x256 : Shape := ⟨3, ![1, 49152, 256]⟩
abbrev S3x49152x256 : Shape := ⟨3, ![3, 49152, 256]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S1x1024x4096 : Shape := ⟨3, ![1, 1024, 4096]⟩
abbrev S1024x4096 : Shape := ⟨2, ![1024, 4096]⟩
abbrev S49152x4096 : Shape := ⟨2, ![49152, 4096]⟩
abbrev S49152x4x1024 : Shape := ⟨3, ![49152, 4, 1024]⟩
abbrev S49152x1x1024 : Shape := ⟨3, ![49152, 1, 1024]⟩
abbrev S1x1024x1024 : Shape := ⟨3, ![1, 1024, 1024]⟩
abbrev S1024x1024 : Shape := ⟨2, ![1024, 1024]⟩

abbrev nBuf : Space → Nat
  | .hbm => 107
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S2x1024x4096, .f32⟩
  | .hbm, ⟨3, _⟩ => ⟨S49152x512, .bf16⟩
  | .hbm, ⟨4, _⟩ => ⟨S49152x256, .f32⟩
  | .hbm, ⟨5, _⟩ => ⟨S12x4x1024x256, .f32⟩
  | .hbm, ⟨6, _⟩ => ⟨S12x16x256x256, .f32⟩
  | .hbm, ⟨7, _⟩ => ⟨S49152x256, .f32⟩
  | .hbm, ⟨8, _⟩ => ⟨S12x4x1024x256, .f32⟩
  | .hbm, ⟨9, _⟩ => ⟨S12x16x256x256, .f32⟩
  | .hbm, ⟨10, _⟩ => ⟨S49152x512, .bf16⟩
  | .hbm, ⟨11, _⟩ => ⟨S49152x512, .bf16⟩
  | .hbm, ⟨12, _⟩ => ⟨S2x512x1024, .f32⟩
  | .hbm, ⟨13, _⟩ => ⟨S2x256x1024, .f32⟩
  | .hbm, ⟨14, _⟩ => ⟨S2x512x1024, .f32⟩
  | .hbm, ⟨15, _⟩ => ⟨S2x512x1024, .f32⟩
  | .hbm, ⟨16, _⟩ => ⟨S2x1024x1024, .f32⟩
  | .hbm, ⟨17, _⟩ => ⟨S1x1024, .f32⟩
  | .hbm, ⟨18, _⟩ => ⟨S1024, .f32⟩
  | .hbm, ⟨19, _⟩ => ⟨S49152x1024, .f32⟩
  | .hbm, ⟨20, _⟩ => ⟨S_, .f32⟩
  | .hbm, ⟨21, _⟩ => ⟨S49152, .f32⟩
  | .hbm, ⟨22, _⟩ => ⟨S49152x1, .f32⟩
  | .hbm, ⟨23, _⟩ => ⟨S_, .f32⟩
  | .hbm, ⟨24, _⟩ => ⟨S49152x1, .f32⟩
  | .hbm, ⟨25, _⟩ => ⟨S49152x1, .f32⟩
  | .hbm, ⟨26, _⟩ => ⟨S_, .f32⟩
  | .hbm, ⟨27, _⟩ => ⟨S49152x1, .f32⟩
  | .hbm, ⟨28, _⟩ => ⟨S49152x1, .f32⟩
  | .hbm, ⟨29, _⟩ => ⟨S49152x1, .f32⟩
  | .hbm, ⟨30, _⟩ => ⟨S49152x1024, .f32⟩
  | .hbm, ⟨31, _⟩ => ⟨S49152x1024, .f32⟩
  | .hbm, ⟨32, _⟩ => ⟨S1x1024, .f32⟩
  | .hbm, ⟨33, _⟩ => ⟨S49152x1024, .f32⟩
  | .hbm, ⟨34, _⟩ => ⟨S49152x1024, .f32⟩
  | .hbm, ⟨35, _⟩ => ⟨S12x1024x4x256, .f32⟩
  | .hbm, ⟨36, _⟩ => ⟨S49152x256, .f32⟩
  | .hbm, ⟨37, _⟩ => ⟨S12x256x16x256, .f32⟩
  | .hbm, ⟨38, _⟩ => ⟨S49152x256, .f32⟩
  | .hbm, ⟨39, _⟩ => ⟨S1x49152x256, .f32⟩
  | .hbm, ⟨40, _⟩ => ⟨S1x49152x256, .f32⟩
  | .hbm, ⟨41, _⟩ => ⟨S1x49152x256, .f32⟩
  | .hbm, ⟨42, _⟩ => ⟨S3x49152x256, .f32⟩
  | .hbm, ⟨43, _⟩ => ⟨S12x1024x4x256, .f32⟩
  | .hbm, ⟨44, _⟩ => ⟨S49152x256, .f32⟩
  | .hbm, ⟨45, _⟩ => ⟨S12x256x16x256, .f32⟩
  | .hbm, ⟨46, _⟩ => ⟨S49152x256, .f32⟩
  | .hbm, ⟨47, _⟩ => ⟨S1x49152x256, .f32⟩
  | .hbm, ⟨48, _⟩ => ⟨S1x49152x256, .f32⟩
  | .hbm, ⟨49, _⟩ => ⟨S1x49152x256, .f32⟩
  | .hbm, ⟨50, _⟩ => ⟨S3x49152x256, .f32⟩
  | .hbm, ⟨51, _⟩ => ⟨S_, .f32⟩
  | .hbm, ⟨52, _⟩ => ⟨S49152x256, .f32⟩
  | .hbm, ⟨53, _⟩ => ⟨S_, .f32⟩
  | .hbm, ⟨54, _⟩ => ⟨S49152x256, .f32⟩
  | .hbm, ⟨55, _⟩ => ⟨S49152x256, .f32⟩
  | .hbm, ⟨56, _⟩ => ⟨S1x49152x256, .f32⟩
  | .hbm, ⟨57, _⟩ => ⟨S3x49152x256, .f32⟩
  | .hbm, ⟨58, _⟩ => ⟨S3x49152x256, .f32⟩
  | .hbm, ⟨59, _⟩ => ⟨S3x49152x256, .f32⟩
  | .hbm, ⟨60, _⟩ => ⟨S_, .f32⟩
  | .hbm, ⟨61, _⟩ => ⟨S49152x256, .f32⟩
  | .hbm, ⟨62, _⟩ => ⟨S1x49152x256, .f32⟩
  | .hbm, ⟨63, _⟩ => ⟨S3x49152x256, .f32⟩
  | .hbm, ⟨64, _⟩ => ⟨S3x49152x256, .f32⟩
  | .hbm, ⟨65, _⟩ => ⟨S3x49152x256, .f32⟩
  | .hbm, ⟨66, _⟩ => ⟨S_, .f32⟩
  | .hbm, ⟨67, _⟩ => ⟨S49152x256, .f32⟩
  | .hbm, ⟨68, _⟩ => ⟨S49152x512, .f32⟩
  | .hbm, ⟨69, _⟩ => ⟨S1x512x1024, .f32⟩
  | .hbm, ⟨70, _⟩ => ⟨S512x1024, .f32⟩
  | .hbm, ⟨71, _⟩ => ⟨S49152x1024, .f32⟩
  | .hbm, ⟨72, _⟩ => ⟨S1x256x1024, .f32⟩
  | .hbm, ⟨73, _⟩ => ⟨S256x1024, .f32⟩
  | .hbm, ⟨74, _⟩ => ⟨S49152x1024, .f32⟩
  | .hbm, ⟨75, _⟩ => ⟨S49152x512, .f32⟩
  | .hbm, ⟨76, _⟩ => ⟨S1x512x1024, .f32⟩
  | .hbm, ⟨77, _⟩ => ⟨S512x1024, .f32⟩
  | .hbm, ⟨78, _⟩ => ⟨S49152x1024, .f32⟩
  | .hbm, ⟨79, _⟩ => ⟨S49152x512, .f32⟩
  | .hbm, ⟨80, _⟩ => ⟨S1x512x1024, .f32⟩
  | .hbm, ⟨81, _⟩ => ⟨S512x1024, .f32⟩
  | .hbm, ⟨82, _⟩ => ⟨S49152x1024, .f32⟩
  | .hbm, ⟨83, _⟩ => ⟨S1x1024x4096, .f32⟩
  | .hbm, ⟨84, _⟩ => ⟨S1024x4096, .f32⟩
  | .hbm, ⟨85, _⟩ => ⟨S49152x4096, .f32⟩
  | .hbm, ⟨86, _⟩ => ⟨S49152x4096, .f32⟩
  | .hbm, ⟨87, _⟩ => ⟨S49152x4096, .f32⟩
  | .hbm, ⟨88, _⟩ => ⟨S_, .f32⟩
  | .hbm, ⟨89, _⟩ => ⟨S49152x4096, .f32⟩
  | .hbm, ⟨90, _⟩ => ⟨S49152x4096, .f32⟩
  | .hbm, ⟨91, _⟩ => ⟨S_, .f32⟩
  | .hbm, ⟨92, _⟩ => ⟨S49152x4096, .f32⟩
  | .hbm, ⟨93, _⟩ => ⟨S49152x4096, .f32⟩
  | .hbm, ⟨94, _⟩ => ⟨S49152x4x1024, .f32⟩
  | .hbm, ⟨95, _⟩ => ⟨S49152x1x1024, .f32⟩
  | .hbm, ⟨96, _⟩ => ⟨S49152x1x1024, .f32⟩
  | .hbm, ⟨97, _⟩ => ⟨S49152x1x1024, .f32⟩
  | .hbm, ⟨98, _⟩ => ⟨S49152x1x1024, .f32⟩
  | .hbm, ⟨99, _⟩ => ⟨S49152x4x1024, .f32⟩
  | .hbm, ⟨100, _⟩ => ⟨S49152x4x1024, .f32⟩
  | .hbm, ⟨101, _⟩ => ⟨S_, .f32⟩
  | .hbm, ⟨102, _⟩ => ⟨S49152x1024, .f32⟩
  | .hbm, ⟨103, _⟩ => ⟨S1x1024x1024, .f32⟩
  | .hbm, ⟨104, _⟩ => ⟨S1024x1024, .f32⟩
  | .hbm, ⟨105, _⟩ => ⟨S49152x1024, .f32⟩
  | .hbm, ⟨106, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_8 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Kernel5.lean ====
abbrev S49152x1024 : Shape := ⟨2, ![49152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S16384x1024 : Shape := ⟨2, ![16384, 1024]⟩
abbrev S32768x1024 : Shape := ⟨2, ![32768, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩
abbrev S4x4096x1024 : Shape := ⟨3, ![4, 4096, 1024]⟩
abbrev S8x4096x1024 : Shape := ⟨3, ![8, 4096, 1024]⟩

abbrev nBuf : Space → Nat
  | .hbm => 15
  | .vmem => 10
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S16384x1024, .f32⟩
  | .hbm, ⟨12, _⟩ => ⟨S32768x1024, .f32⟩
  | .hbm, ⟨13, _⟩ => ⟨S4x4096x1024, .f32⟩
  | .hbm, ⟨14, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c32_i32 : BitVec 32 := 32#32
  let v76 : BitVec 1 := Scalar.cmpi .slt arg0 c32_i32
  let v77 : BitVec 32 := Scalar.extui v76
  let c0_i32 : BitVec 32 := 0#32
  let v78 : BitVec 1 := Scalar.cmpi .ne v77 c0_i32
  v78

def k0_cond2 (i : grid0.Coords) : BitVec 1 :=
  let arg0 : BitVec 32 := BitVec.ofNat 32 (i 0).val
  let c32_i32_48 : BitVec 32 := 32#32
  let v79 : BitVec 1 := Scalar.cmpi .sge arg0 c32_i32_48
  let v80 : BitVec 32 := Scalar.extui v79
  let c0_i32_49 : BitVec 32 := 0#32
  let v81 : BitVec 1 := Scalar.cmpi .ne v80 c0_i32_49
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S49152x1024 : Shape := ⟨2, ![49152, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S1x1024x2816 : Shape := ⟨3, ![1, 1024, 2816]⟩
abbrev S1024x2816 : Shape := ⟨2, ![1024, 2816]⟩
abbrev S49152x2816 : Shape := ⟨2, ![49152, 2816]⟩
abbrev S1x2816x1024 : Shape := ⟨3, ![1, 2816, 1024]⟩
abbrev S2816x1024 : Shape := ⟨2, ![2816, 1024]⟩
abbrev S16384x1024 : Shape := ⟨2, ![16384, 1024]⟩
abbrev S4x4096x1024 : Shape := ⟨3, ![4, 4096, 1024]⟩
abbrev S32768x1024 : Shape := ⟨2, ![32768, 1024]⟩
abbrev S8x4096x1024 : Shape := ⟨3, ![8, 4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S49152x1024, .f32⟩
  | .hbm, ⟨8, _⟩ => ⟨S_, .f32⟩
  | .hbm, ⟨9, _⟩ => ⟨S49152, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S_, .f32⟩
  | .hbm, ⟨15, _⟩ => ⟨S49152x1, .f32⟩
  | .hbm, ⟨16, _⟩ => ⟨S49152x1, .f32⟩
  | .hbm, ⟨17, _⟩ => ⟨S49152x1, .f32⟩
  | .hbm, ⟨18, _⟩ => ⟨S49152x1024, .f32⟩
  | .hbm, ⟨19, _⟩ => ⟨S49152x1024, .f32⟩
  | .hbm, ⟨20, _⟩ => ⟨S1x1024, .f32⟩
  | .hbm, ⟨21, _⟩ => ⟨S49152x1024, .f32⟩
  | .hbm, ⟨22, _⟩ => ⟨S49152x1024, .f32⟩
  | .hbm, ⟨23, _⟩ => ⟨S1x1024x2816, .f32⟩
  | .hbm, ⟨24, _⟩ => ⟨S1024x2816, .f32⟩
  | .hbm, ⟨25, _⟩ => ⟨S49152x2816, .f32⟩
  | .hbm, ⟨26, _⟩ => ⟨S49152x2816, .f32⟩
  | .hbm, ⟨27, _⟩ => ⟨S49152x2816, .f32⟩
  | .hbm, ⟨28, _⟩ => ⟨S_, .f32⟩
  | .hbm, ⟨29, _⟩ => ⟨S49152x2816, .f32⟩
  | .hbm, ⟨30, _⟩ => ⟨S49152x2816, .f32⟩
  | .hbm, ⟨31, _⟩ => ⟨S_, .f32⟩
  | .hbm, ⟨32, _⟩ => ⟨S49152x2816, .f32⟩
  | .hbm, ⟨33, _⟩ => ⟨S49152x2816, .f32⟩
  | .hbm, ⟨34, _⟩ => ⟨S49152x2816, .f32⟩
  | .hbm, ⟨35, _⟩ => ⟨S1x1024x2816, .f32⟩
  | .hbm, ⟨36, _⟩ => ⟨S1024x2816, .f32⟩
  | .hbm, ⟨37, _⟩ => ⟨S49152x2816, .f32⟩
  | .hbm, ⟨38, _⟩ => ⟨S49152x2816, .f32⟩
  | .hbm, ⟨39, _⟩ => ⟨S1x2816x1024, .f32⟩
  | .hbm, ⟨40, _⟩ => ⟨S2816x1024, .f32⟩
  | .hbm, ⟨41, _⟩ => ⟨S49152x1024, .f32⟩
  | .hbm, ⟨42, _⟩ => ⟨S49152x1024, .f32⟩
  | .hbm, ⟨43, _⟩ => ⟨S16384x1024, .f32⟩
  | .hbm, ⟨44, _⟩ => ⟨S4x4096x1024, .f32⟩
  | .hbm, ⟨45, _⟩ => ⟨S32768x1024, .f32⟩
  | .hbm, ⟨46, _⟩ => ⟨S8x4096x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel6.lean ====
abbrev S49152x1024 : Shape := ⟨2, ![49152, 1024]⟩
abbrev S49152x512 : Shape := ⟨2, ![49152, 512]⟩
abbrev S256x512 : Shape := ⟨2, ![256, 512]⟩
abbrev S4096x512 : Shape := ⟨2, ![4096, 512]⟩
abbrev S4096x256 : Shape := ⟨2, ![4096, 256]⟩
abbrev S256x256 : Shape := ⟨2, ![256, 256]⟩
abbrev S256x128 : Shape := ⟨2, ![256, 128]⟩
abbrev S4096x128 : Shape := ⟨2, ![4096, 128]⟩
abbrev S256x4096 : Shape := ⟨2, ![256, 4096]⟩
abbrev S128x4096 : Shape := ⟨2, ![128, 4096]⟩
abbrev S128x128 : Shape := ⟨2, ![128, 128]⟩
abbrev S128 : Shape := ⟨1, ![128]⟩
abbrev S128x1 : Shape := ⟨2, ![128, 1]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S49152x1024, .bf16⟩
  | .hbm, ⟨1, _⟩ => ⟨S49152x1024, .bf16⟩
  | .hbm, ⟨2, _⟩ => ⟨S49152x512, .bf16⟩
  | .hbm, ⟨3, _⟩ => ⟨S49152x512, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel7.lean ====
abbrev S49152x512 : Shape := ⟨2, ![49152, 512]⟩
abbrev S4x64 : Shape := ⟨2, ![4, 64]⟩
abbrev S1x128 : Shape := ⟨2, ![1, 128]⟩
abbrev S256x512 : Shape := ⟨2, ![256, 512]⟩
abbrev S4096x512 : Shape := ⟨2, ![4096, 512]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S49152x512, .bf16⟩
  | .hbm, ⟨1, _⟩ => ⟨S49152x512, .bf16⟩
  | .hbm, ⟨2, _⟩ => ⟨S49152x512, .bf16⟩
  | .hbm, ⟨3, _⟩ => ⟨S4x64, .f32⟩
  | .hbm, ⟨4, _⟩ => ⟨S1x128, .f32⟩
  | .hbm, ⟨5, _⟩ => ⟨S49152x512, .bf16⟩
  | .local _ .vmem, ⟨0, _⟩ => ⟨S4x64, .f32⟩
  | .local _ .vmem, ⟨1, _⟩ => ⟨S256x512, .bf16⟩
  | .local _ .vmem, ⟨2, _⟩ => ⟨S256x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | _, _ => ⟨S49152x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![12, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Proof.AttnAKernel.lean ====
module

public import proofs.«01_k».proof.Proof.Gen.KernelIdeal.Value
public import Idealize.ShloMosaic.Lib.Pointwise
public import Idealize.ShloMosaic.Lib.Pipeline.ValueKit

@[expose] public section

/-! The attention kernel's four heads are one function of their slices; this module names it and reads it at an index. -/

set_option maxRecDepth 16384

noncomputable section

namespace Cert.AttnA

open Cert.KernelIdeal Cert.KernelIdeal.Gen Idealize.ShloMosaic Idealize.ShloMosaic.TcCoe Idealize.SL.Sem
open Idealize.ShloMosaic.Pipeline (Dat)

/-- The row sums of an array of weights: thirty-two slices of 128 columns added up, then summed over the lanes. -/
def rowSum (E : FVec Ideal S256x4096 .f32) : FVec Ideal S256x1 .f32 :=
  k0_pay8 (F := Ideal) (k0_pay7 (F := Ideal) E
    (addf (extractStridedSlice S256x128 ![0, 0] E slices_S256x4096_o0_0_S256x128)
      (extractStridedSlice S256x128 ![0, 128] E slices_S256x4096_o0_128_S256x128))
    (extractStridedSlice S256x128 ![0, 256] E slices_S256x4096_o0_256_S256x128))

/-- One head: from the weight `lam` of the second softmax and the head's queries, keys, values and gain. -/
def head (lam : FVec Ideal S1x1 .f32) (q : FVec Ideal S256x128 .bf16) (k v : FVec Ideal S4096x128 .bf16)
    (g : FVec Ideal S1x128 .f32) : FVec Ideal S256x128 .bf16 :=
  k0_pay21 (F := Ideal) (rowSum (k0_pay4 q k))
    (k0_pay20 lam (k0_pay4 q k) (rowSum (k0_pay4 q k)) (k0_pay9 (k0_pay3 q k)) (rowSum (k0_pay9 (k0_pay3 q k)))) v g

/-- The first head of a grid point, as a function of its loads. -/
theorem head0 (lam : FVec Ideal S1x1 .f32) (q : FVec Ideal S256x128 .bf16) (k v : FVec Ideal S4096x128 .bf16)
    (g : FVec Ideal S1x128 .f32) :
    k0_pay21 (F := Ideal) (k0_pay8 (k0_pay7 (k0_pay4 q k) (k0_pay5 q k) (k0_pay6 q k)))
      (k0_pay20 lam (k0_pay4 q k) (k0_pay8 (k0_pay7 (k0_pay4 q k) (k0_pay5 q k) (k0_pay6 q k))) (k0_pay9 (k0_pay3 q k))
        (k0_pay11 (k0_pay9 (k0_pay3 q k)) (k0_pay10 (k0_pay3 q k)))) v g = head lam q k v g := rfl

/-- The lane numbers. -/
abbrev lanes : IVec S256x128 32 := iota .tc S256x128 32 [1] iota_S256x128_d1_w32

/-- The second head of a grid point, as a function of its loads. -/
theorem head1 (lam : FVec Ideal S1x1 .f32) (q : FVec Ideal S256x128 .bf16) (k v : FVec Ideal S4096x128 .bf16)
    (g : FVec Ideal S1x128 .f32) :
    k0_pay33 (F := Ideal) lam (k0_pay13 lanes q k) (k0_pay16 (k0_pay13 lanes q k) (k0_pay14 lanes q k) (k0_pay15 lanes q k))
      (k0_pay17 (k0_pay12 lanes q k)) (k0_pay19 (k0_pay17 (k0_pay12 lanes q k)) (k0_pay18 (k0_pay12 lanes q k))) v g
      = head lam q k v g := rfl

/-- The third head of a grid point, as a function of its loads. -/
theorem head2 (lam : FVec Ideal S1x1 .f32) (q : FVec Ideal S256x128 .bf16) (k v : FVec Ideal S4096x128 .bf16)
    (g : FVec Ideal S1x128 .f32) :
    k0_pay43 (F := Ideal) (k0_pay28 (k0_pay26 (k0_pay22 lanes q k)) (k0_pay27 (k0_pay22 lanes q k)))
      (k0_pay42 lam (k0_pay26 (k0_pay22 lanes q k)) (k0_pay28 (k0_pay26 (k0_pay22 lanes q k)) (k0_pay27 (k0_pay22 lanes q k)))
        (k0_pay29 (k0_pay25 q k (k0_pay23 lanes) (k0_pay24 lanes)))
        (k0_pay32 (k0_pay29 (k0_pay25 q k (k0_pay23 lanes) (k0_pay24 lanes))) (k0_pay30 (k0_pay25 q k (k0_pay23 lanes) (k0_pay24 lanes)))
          (k0_pay31 (k0_pay25 q k (k0_pay23 lanes) (k0_pay24 lanes)))) v) (Scalar.ofBits .f32 0x3F800000#32) g
      = head lam q k v g := rfl

/-- The fourth head of a grid point, as a function of its loads. -/
theorem head3 (lam : FVec Ideal S1x1 .f32) (q : FVec Ideal S256x128 .bf16) (k v : FVec Ideal S4096x128 .bf16)
    (g : FVec Ideal S1x128 .f32) :
    k0_pay1 (F := Ideal)
      (k0_pay44 lam (k0_pay35 lanes q k) (k0_pay38 (k0_pay35 lanes q k) (k0_pay36 lanes q k) (k0_pay37 lanes q k))
        (k0_pay39 (k0_pay34 lanes q k)) (k0_pay41 (k0_pay39 (k0_pay34 lanes q k)) (k0_pay40 (k0_pay34 lanes q k))) v) g
      (k0_pay45 lam (k0_pay35 lanes q k) (k0_pay38 (k0_pay35 lanes q k) (k0_pay36 lanes q k) (k0_pay37 lanes q k))
        (k0_pay39 (k0_pay34 lanes q k)) (k0_pay41 (k0_pay39 (k0_pay34 lanes q k)) (k0_pay40 (k0_pay34 lanes q k))) v)
      = head lam q k v g := rfl

/-- The first half of the lanes' scores, two to their power. -/
theorem score0_at (q : FVec Ideal S256x128 .bf16) (k : FVec Ideal S4096x128 .bf16) (j : S256x4096.Idx) :
    k0_pay4 (F := Ideal) q k j = Ideal.exp2 (∑ d : Fin 64, q (ix2 (j 0) ⟨d.val, by omega⟩) * k (ix2 (j 1) ⟨d.val, by omega⟩)) := by
  pointwise [k0_pay4]
  refine congrArg Ideal.exp2 ?_
  rw [Fin.sum_univ_two_halves 64 64 rfl]
  rw [Finset.sum_eq_zero (s := Finset.univ) (f := fun x : Fin 64 => Scalar.select _ (q (ix2 (j 0) ⟨64 + x.val, _⟩) * _) _)]
  · rw [add_zero]
    refine Finset.sum_congr rfl fun x _ => ?_
    rw [show IntOp.andi (IntOp.cmpi CmpIPredicate.sge (BitVec.ofNat 32 x.val) 0#32)
      (IntOp.cmpi CmpIPredicate.slt (BitVec.ofNat 32 x.val) 64#32) = 1#1 by revert x; decide +kernel]
    rfl
  · intro x _
    rw [show IntOp.andi (IntOp.cmpi CmpIPredicate.sge (BitVec.ofNat 32 (64 + x.val)) 0#32)
      (IntOp.cmpi CmpIPredicate.slt (BitVec.ofNat 32 (64 + x.val)) 64#32) = 0#1 by revert x; decide +kernel]
    rfl

/-- The second half of the lanes' scores, two to their power. -/
theorem score1_at (q : FVec Ideal S256x128 .bf16) (k : FVec Ideal S4096x128 .bf16) (j : S256x4096.Idx) :
    k0_pay9 (F := Ideal) (k0_pay3 (F := Ideal) q k) j =
      Ideal.exp2 (∑ d : Fin 64, q (ix2 (j 0) ⟨64 + d.val, by omega⟩) * k (ix2 (j 1) ⟨64 + d.val, by omega⟩)) := by
  pointwise [k0_pay3, k0_pay9]
  refine congrArg Ideal.exp2 ?_
  rw [Fin.sum_univ_two_halves 64 64 rfl]
  rw [Finset.sum_eq_zero (s := Finset.univ) (f := fun x : Fin 64 => Scalar.select _ (q (ix2 (j 0) ⟨x.val, _⟩) * _) _)]
  · rw [zero_add]
    refine Finset.sum_congr rfl fun x _ => ?_
    rw [show IntOp.andi (IntOp.cmpi CmpIPredicate.sge (BitVec.ofNat 32 (64 + x.val)) 64#32)
      (IntOp.cmpi CmpIPredicate.slt (BitVec.ofNat 32 (64 + x.val)) 128#32) = 1#1 by revert x; decide +kernel]
    rfl
  · intro x _
    rw [show IntOp.andi (IntOp.cmpi CmpIPredicate.sge (BitVec.ofNat 32 x.val) 64#32)
      (IntOp.cmpi CmpIPredicate.slt (BitVec.ofNat 32 x.val) 128#32) = 0#1 by revert x; decide +kernel]
    rfl

/-- The difference of the two softmaxes' weights, not yet divided by the first row sum. -/
theorem w_at (lam : FVec Ideal S1x1 .f32) (e0 e1 : FVec Ideal S256x4096 .f32) (l0 l1 : FVec Ideal S256x1 .f32) (j : S256x4096.Idx) :
    k0_pay20 (F := Ideal) lam e0 l0 e1 l1 j
      = e0 j - Ideal.div (lam (ix2 0 0) * l0 (ix2 (j 0) 0)) (l1 (ix2 (j 0) 0)) * e1 j := by
  pointwise [k0_pay20]

/-- The weighted mean `f` over the lanes, normalised by its root mean square, scaled by the gain and by the constant. -/
def normed (f : Fin 128 → EReal) (g : EReal) (l : Fin 128) : EReal :=
  f l * Ideal.rsqrt (Ideal.div (∑ e, f e * f e) (Ideal.ofBits .f32 1124073472#32) + Ideal.ofBits .f32 897988541#32) * g
    * Ideal.ofBits .f32 1061997773#32

/-- The product of the weights and the values, over the sums of the weights, at a place. -/
theorem out_at (l0 : FVec Ideal S256x1 .f32) (w : FVec Ideal S256x4096 .bf16) (v : FVec Ideal S4096x128 .bf16)
    (g : FVec Ideal S1x128 .f32) (j : S256x128.Idx) :
    k0_pay21 (F := Ideal) l0 w v g j
      = normed (fun e => (∑ n : Fin 4096, w (ix2 (j 0) n) * v (ix2 n e)) * Ideal.div 1 (l0 (ix2 (j 0) 0)))
          (g (ix2 0 (j 1))) (j 1) := by
  pointwise [k0_pay21, normed]

/-- The weight of the second softmax. -/
def lamOf (p : (⟨2, ![4, 64]⟩ : Shape).Idx → EReal) : EReal :=
  Ideal.exp (∑ x : Fin 64, p (ix2 0 x) * p (ix2 1 x)) - Ideal.exp (∑ x : Fin 64, p (ix2 2 x) * p (ix2 3 x))
    + Ideal.ofBits .f32 1045220557#32

/-- The kernel's lambda. -/
theorem lam_at (p : FVec Ideal S4x64 .f32) (j : S1x1.Idx) : k0_pay2 (F := Ideal) p j = lamOf p := by
  pointwise [k0_pay2, lamOf]

/-- A row's sum: the kernel folds it over the lanes first. -/
theorem rowSum_at (E : FVec Ideal S256x4096 .f32) (j : S256x1.Idx) :
    rowSum E j = ∑ n : Fin 4096, E (ix2 (j 0) n) := by
  pointwise [rowSum, k0_pay8, k0_pay7]
  rw [Fin.sum_univ_tiles 32 128 rfl, Finset.sum_comm]
  refine Finset.sum_congr rfl fun x _ => ?_
  simp only [Fin.sum_univ_castSucc, Fin.sum_univ_zero, zero_add, Fin.val_last, Fin.val_castSucc, Nat.reduceMul, Nat.zero_add, Nat.reduceAdd, Fin.val_zero, Nat.zero_mul]
  try rfl

/-- A head at a row and a lane, from its scores' powers of two. -/
theorem head_at (lam : FVec Ideal S1x1 .f32) (q : FVec Ideal S256x128 .bf16) (k v : FVec Ideal S4096x128 .bf16)
    (g : FVec Ideal S1x128 .f32) (j : S256x128.Idx) (s0 s1 : Fin 4096 → EReal)
    (h0 : ∀ n, s0 n = ∑ d : Fin 64, q (ix2 (j 0) ⟨d.val, by omega⟩) * k (ix2 n ⟨d.val, by omega⟩))
    (h1 : ∀ n, s1 n = ∑ d : Fin 64, q (ix2 (j 0) ⟨64 + d.val, by omega⟩) * k (ix2 n ⟨64 + d.val, by omega⟩)) :
    head lam q k v g j
      = normed (fun e => (∑ n : Fin 4096,
            (Ideal.exp2 (s0 n) - Ideal.div (lam (ix2 0 0) * ∑ n, Ideal.exp2 (s0 n)) (∑ n, Ideal.exp2 (s1 n)) * Ideal.exp2 (s1 n))
              * v (ix2 n e)) * Ideal.div 1 (∑ n, Ideal.exp2 (s0 n)))
          (g (ix2 0 (j 1))) (j 1) := by
  have e0 : ∀ n : Fin 4096, k0_pay4 (F := Ideal) q k (ix2 (j 0) n) = Ideal.exp2 (s0 n) := fun n => by
    rw [score0_at, h0]; rfl
  have e1 : ∀ n : Fin 4096, k0_pay9 (F := Ideal) (k0_pay3 (F := Ideal) q k) (ix2 (j 0) n) = Ideal.exp2 (s1 n) := fun n => by
    rw [score1_at, h1]; rfl
  have l0 : rowSum (k0_pay4 (F := Ideal) q k) (ix2 (j 0) 0) = ∑ n, Ideal.exp2 (s0 n) :=
    (rowSum_at _ _).trans (Finset.sum_congr rfl fun n _ => e0 n)
  have l1 : rowSum (k0_pay9 (F := Ideal) (k0_pay3 (F := Ideal) q k)) (ix2 (j 0) 0) = ∑ n, Ideal.exp2 (s1 n) :=
    (rowSum_at _ _).trans (Finset.sum_congr rfl fun n _ => e1 n)
  unfold head
  rw [out_at, l0]
  refine congrArg (fun f => normed f _ _) (funext fun e => congrArg (· * _) (Finset.sum_congr rfl fun n _ => congrArg (· * _) ?_))
  rw [w_at, e0, e1]
  show _ - Ideal.div (_ * rowSum _ (ix2 (j 0) 0)) (rowSum _ (ix2 (j 0) 0)) * _ = _
  rw [l0, l1]

end Cert.AttnA

end
-- ==== Proof.AttnAMath.lean ====
module

public import Idealize.ShloMosaic.Lib.Pointwise
public import Idealize.ShloMosaic.Lib.Pipeline.ValueKit

@[expose] public section

/-! Softmax to the base two without a shift equals softmax to the base e with one, over real scores. -/

noncomputable section

namespace Cert.SoftmaxMath

open Idealize.ShloMosaic

variable {ι : Type} [Fintype ι] [Nonempty ι]

/-- Real numbers' sum, read in the extended reals. -/
theorem coe_sum (t : Finset ι) (f : ι → ℝ) : (∑ n ∈ t, (f n : EReal)) = ((∑ n ∈ t, f n : ℝ) : EReal) := by
  classical
  induction t using Finset.induction with
  | empty => simp
  | insert a t ha ih => rw [Finset.sum_insert ha, Finset.sum_insert ha, ih, EReal.coe_add]

/-- A real factor that is not negative comes out of a sum. -/
theorem sum_mul_coe {κ : Type} (t : Finset κ) (f : κ → EReal) {c : ℝ} (hc : 0 ≤ c) :
    (∑ n ∈ t, f n) * (c : EReal) = ∑ n ∈ t, f n * (c : EReal) := by
  classical
  induction t using Finset.induction with
  | empty => simp
  | insert a t ha ih =>
    rw [Finset.sum_insert ha, Finset.sum_insert ha, ← ih,
      EReal.right_distrib_of_nonneg_of_ne_top (by exact_mod_cast hc) (EReal.coe_ne_top c)]

/-- A product of real entries, summed, is real. -/
theorem dot_real {κ : Type} [Fintype κ] (f g : κ → EReal) (hf : ∀ d, ∃ r : ℝ, f d = r) (hg : ∀ d, ∃ r : ℝ, g d = r) :
    ∃ s : ℝ, ∑ d, f d * g d = s := by
  choose a ha using hf
  choose b hb using hg
  classical
  refine ⟨∑ d, a d * b d, ?_⟩
  simp only [ha, hb, ← EReal.coe_mul]
  generalize (Finset.univ : Finset κ) = t
  induction t using Finset.induction with
  | empty => simp
  | insert x t hx ih => rw [Finset.sum_insert hx, Finset.sum_insert hx, ih, EReal.coe_add]

/-- The greatest of finitely many reals is a real. -/
theorem fold_max_real (t : Finset ι) (ht : t.Nonempty) (f : ι → ℝ) : ∃ M : ℝ, t.fold max ⊥ (fun n => (f n : EReal)) = M := by
  classical
  induction ht using Finset.Nonempty.cons_induction with
  | singleton a => exact ⟨f a, by simp⟩
  | cons a t h ht ih =>
    obtain ⟨M, hM⟩ := ih
    exact ⟨max (f a) M, by rw [Finset.fold_cons, hM]; exact (EReal.coe_strictMono.monotone.map_max).symm⟩

/-- The weights of a softmax over real scores `s`, taken to the base e of `s · ln 2 - M`, are `2 ^ s` over its sum. -/
theorem softmax_shift (s : ι → ℝ) (M : ℝ) (n : ι) :
    Ideal.div (Ideal.exp ((s n : EReal) * ((Real.log 2 : ℝ) : EReal) - (M : EReal)))
        (∑ k, Ideal.exp ((s k : EReal) * ((Real.log 2 : ℝ) : EReal) - (M : EReal)))
      = (((2 : ℝ) ^ s n / ∑ k, (2 : ℝ) ^ s k : ℝ) : EReal) := by
  have h : ∀ k, Ideal.exp ((s k : EReal) * ((Real.log 2 : ℝ) : EReal) - (M : EReal)) = (((2 : ℝ) ^ s k * Real.exp (-M) : ℝ) : EReal) := by
    intro k
    rw [← EReal.coe_mul, ← EReal.coe_sub, Ideal.exp_coe, sub_eq_add_neg, Real.exp_add, Real.rpow_def_of_pos (by norm_num), mul_comm (s k)]
  have hpos : 0 < ∑ k, (2 : ℝ) ^ s k := Finset.sum_pos (fun k _ => Real.rpow_pos_of_pos (by norm_num) _) Finset.univ_nonempty
  simp only [h]
  rw [coe_sum, ← Finset.sum_mul, Ideal.div_coe (by positivity), ← EReal.coe_mul, mul_one_div]
  exact congrArg _ (mul_div_mul_right _ _ (Real.exp_ne_zero _))

/-- A factor that is real and not negative distributes over a difference. -/
theorem sub_mul_coe (x y : EReal) {c : ℝ} (hc : 0 ≤ c) : (x - y) * (c : EReal) = x * c - y * c := by
  rw [sub_eq_add_neg, EReal.right_distrib_of_nonneg_of_ne_top (by exact_mod_cast hc) (EReal.coe_ne_top c), EReal.neg_mul,
    ← sub_eq_add_neg]

/-- The kernel's differential attention, from unshifted powers of two and dividing once at the end, is the difference of
    two softmaxes applied to the values. -/
theorem diff_softmax (s0 s1 : ι → ℝ) (M0 M1 : ℝ) (lam : EReal) (v : ι → EReal) :
    (∑ n, (Ideal.exp2 (s0 n) - Ideal.div (lam * ∑ k, Ideal.exp2 (s0 k)) (∑ k, Ideal.exp2 (s1 k)) * Ideal.exp2 (s1 n)) * v n)
        * Ideal.div 1 (∑ k, Ideal.exp2 (s0 k))
      = ∑ n, v n *
          (Ideal.div (Ideal.exp ((s0 n : EReal) * ((Real.log 2 : ℝ) : EReal) - (M0 : EReal)))
              (∑ k, Ideal.exp ((s0 k : EReal) * ((Real.log 2 : ℝ) : EReal) - (M0 : EReal)))
            - lam * Ideal.div (Ideal.exp ((s1 n : EReal) * ((Real.log 2 : ℝ) : EReal) - (M1 : EReal)))
              (∑ k, Ideal.exp ((s1 k : EReal) * ((Real.log 2 : ℝ) : EReal) - (M1 : EReal)))) := by
  have hpos : ∀ s : ι → ℝ, 0 < ∑ k, (2 : ℝ) ^ s k := fun s =>
    Finset.sum_pos (fun k _ => Real.rpow_pos_of_pos (by norm_num) _) Finset.univ_nonempty
  have hl : ∀ s : ι → ℝ, (∑ k, Ideal.exp2 (s k : EReal)) = ((∑ k, (2 : ℝ) ^ s k : ℝ) : EReal) := fun s => coe_sum _ _
  simp only [softmax_shift, hl]
  have p0 := hpos s0
  have p1 := hpos s1
  generalize (∑ k, (2 : ℝ) ^ s0 k) = L0 at *
  generalize (∑ k, (2 : ℝ) ^ s1 k) = L1 at *
  have hd1 : Ideal.div 1 (L0 : EReal) = ((L0⁻¹ : ℝ) : EReal) := by
    rw [Ideal.div_coe p0.ne', one_mul, one_div]
  have hd2 : Ideal.div (lam * (L0 : EReal)) (L1 : EReal) = lam * ((L0 / L1 : ℝ) : EReal) := by
    have : (L1 : EReal) ≠ 0 := by exact_mod_cast p1.ne'
    rw [Ideal.div, if_neg this, mul_assoc, ← EReal.coe_inv, ← EReal.coe_mul, div_eq_mul_inv]
  rw [hd1, hd2, sum_mul_coe _ _ (by positivity)]
  refine Finset.sum_congr rfl fun n _ => ?_
  rw [mul_right_comm, mul_comm (v n), sub_mul_coe _ _ (by positivity)]
  refine congrArg (· * v n) (congrArg₂ (· - ·) ?_ ?_)
  · rw [Ideal.exp2_coe, ← EReal.coe_mul, div_eq_mul_inv]; rfl
  · rw [Ideal.exp2_coe, mul_assoc, mul_assoc, ← EReal.coe_mul, ← EReal.coe_mul]
    refine congrArg (lam * ·) (congrArg _ ?_)
    show L0 / L1 * (2 ^ s1 n * L0⁻¹) = 2 ^ s1 n / L1
    field_simp

end Cert.SoftmaxMath

end
-- ==== Proof.AttnARef.lean ====
module

public import proofs.«01_k».proof.Proof.Gen.ReferenceIdeal.Run
public import proofs.«01_k».proof.Proof.Gen.ReferenceIdeal.Read
public import proofs.«01_k».proof.Proof.AttnAMath
public import proofs.«01_k».proof.Proof.AttnAKernel
public import Idealize.ShloMosaic.Lib.Pointwise
public import Idealize.ShloMosaic.Lib.Pipeline.ValueKit

@[expose] public section

/-! The reference's differential attention read at an index. -/

set_option maxRecDepth 16384

noncomputable section

namespace Cert.AttnA.Ref

open Cert.AttnA (lamOf normed)
open Cert Cert.ReferenceIdeal Cert.ReferenceIdeal.Gen Cert.ReferenceIdeal.Read Idealize.ShloMosaic Idealize.ShloMosaic.TcCoe Idealize.SL.Sem

variable (x0 x1 x2 : (⟨S49152x512, .bf16⟩ : BufTy).Contents (Elt Ideal)) (x3 : (⟨S4x64, .f32⟩ : BufTy).Contents (Elt Ideal))
  (x4 : (⟨S1x128, .f32⟩ : BufTy).Contents (Elt Ideal))

/-- The score of query row `r` and key row `n` in map `c` of head `h` of sequence `b`, to the base two. -/
def score (b : Fin 12) (h : Fin 4) (c : Fin 2) (r n : Fin 4096) : EReal :=
  ∑ d : Fin 64, x0 (ix2 ⟨b.val * 4096 + r.val, by omega⟩ ⟨h.val * 128 + c.val * 64 + d.val, by omega⟩)
    * x1 (ix2 ⟨b.val * 4096 + n.val, by omega⟩ ⟨h.val * 128 + c.val * 64 + d.val, by omega⟩)

/-- The reference's lambda. -/
theorem lam_at (i : S_.Idx) : val_main_v21 (F := Ideal) x3 i = lamOf x3 := by
  pointwise [val_main_v6, val_main_v7, val_main_v8, val_main_v9, val_main_v10, val_main_v11, val_main_v12, val_main_v13,
    val_main_v14, val_main_v15, val_main_v16, val_main_v17, val_main_v18, val_main_v19, val_main_v20, val_main_v21,
    val_main_cst, val_main_cst_0, val_main_cst_1, lamOf]

/-- The logarithm of two, as the reference takes it. -/
theorem log_two : Ideal.log (Ideal.ofBits .f32 1073741824#32) = ((Real.log 2 : ℝ) : EReal) := by
  have h2 : Ideal.ofBits .f32 1073741824#32 = ((2 : ℝ) : EReal) := by
    simp [Ideal.ofBits, Ideal.ieee]
    rw [← EReal.coe_mul]
    norm_num
  rw [h2, Ideal.log_coe, if_neg (by norm_num)]

/-- The f32 pattern of minus infinity. -/
theorem neg_inf : Ideal.ofBits .f32 4286578688#32 = ⊥ := by simp [Ideal.ofBits, Ideal.ieee]

/-- The reference's score of a query and a key. -/
theorem score_at (b : Fin 12) (h : Fin 4) (c : Fin 2) (r n : Fin 4096) :
    val_main_v25 (F := Ideal) x0 x1 (ix5 b h c r n) = score x0 x1 b h c r n * ((Real.log 2 : ℝ) : EReal) := by
  pointwise [val_main_v25_apply, val_main_v22_apply, val_main_v24_apply, val_main_v23_apply, val_main_cst_2, val_main_v1,
    val_main_v0, val_main_v3, val_main_v2, score]
  rw [log_two]

/-- A maximum over one axis of an array of reals, begun at minus infinity, is real. -/
theorem hostMax_real {s t u : Shape} {a : Fin s.rank} (h' : s.ReducesTo [a] t) (h : s.Reduces [a] t) (hn : 0 < s.size a)
    (x : FVec Ideal s .f32) (v : FVec Ideal u .f32) (hu : 0 < u.numel) (hv : v (Shape.Idx.first hu) = (⊥ : EReal))
    (hx : ∀ i, ∃ r : ℝ, x i = (r : EReal)) (j : t.Idx) :
    ∃ M : ℝ, Host.reduce (FloatOps.maximumf (F := Ideal)) x v h' hu j = (M : EReal) := by
  rw [Host.reduce_eq_fold, Shape.ReducesTo.drop_eq_drop h' h, h.fold_filter_drop_single, hv]
  choose y hy using hx
  haveI : Nonempty (Fin (s.size a)) := ⟨⟨0, hn⟩⟩
  obtain ⟨M, hM⟩ := SoftmaxMath.fold_max_real Finset.univ Finset.univ_nonempty (fun k => y (h.lift j k))
  refine ⟨M, Eq.trans ?_ hM⟩
  exact congrArg (fun f => Finset.fold max (⊥ : EReal) f Finset.univ) (funext fun k => hy _)

/-- The shift of the reference's softmax is real where the scores are. -/
theorem max_real (hs : ∀ i, ∃ s : ℝ, val_main_v25 (F := Ideal) x0 x1 i = (s : EReal)) (j : S12x4x2x4096.Idx) :
    ∃ M : ℝ, val_main_v28 (F := Ideal) x0 x1 j = (M : EReal) := by
  rw [val_main_v28_apply, val_main_v27_apply]
  unfold val_main_v26 val_main_cst_4
  obtain ⟨M, hM⟩ := hostMax_real reducesTo_S12x4x2x4096x4096_S12x4x2x4096_d4 (by decide) (by decide)
    (val_main_v25 (F := Ideal) x0 x1) (val_main_cst_3 (F := Ideal)) h_S_ neg_inf hs j
  refine ⟨M, ?_⟩
  rw [hM]
  show max (Ideal.ofBits .f32 4286578688#32) (M : EReal) = M
  rw [neg_inf]
  exact max_eq_right bot_le

/-- The softmax at a place, from the scores of its row and the row's shift. -/
theorem p_at (b : Fin 12) (h : Fin 4) (c : Fin 2) (r n : Fin 4096) : val_main_v36 (F := Ideal) x0 x1 (ix5 b h c r n)
    = Ideal.div (Ideal.exp (score x0 x1 b h c r n * ((Real.log 2 : ℝ) : EReal) - val_main_v28 (F := Ideal) x0 x1 (ix4 b h c r)))
        (∑ k, Ideal.exp (score x0 x1 b h c r k * ((Real.log 2 : ℝ) : EReal) - val_main_v28 (F := Ideal) x0 x1 (ix4 b h c r))) := by
  pointwise [val_main_v29_apply, val_main_v30_apply, val_main_v31_apply, val_main_v32_apply, val_main_v33_apply,
    val_main_v34_apply, val_main_v35_apply, val_main_v36_apply, val_main_cst_5]
  have e1 : idx_main_v29 (idx_main_v30 (ix5 b h c r n)) = ix4 b h c r := by
    funext a; match a with | ⟨0, _⟩ => rfl | ⟨1, _⟩ => rfl | ⟨2, _⟩ => rfl | ⟨3, _⟩ => rfl
  have e2 : ∀ x, idx_main_v33 (idx_main_v34 (idx_main_v35 (ix5 b h c r n))) x = ix5 b h c r x := by
    intro x; funext a; match a with | ⟨0, _⟩ => rfl | ⟨1, _⟩ => rfl | ⟨2, _⟩ => rfl | ⟨3, _⟩ => rfl | ⟨4, _⟩ => rfl
  have e3 : ∀ x, idx_main_v29 (idx_main_v30 (ix5 b h c r x)) = ix4 b h c r := by
    intro x; funext a; match a with | ⟨0, _⟩ => rfl | ⟨1, _⟩ => rfl | ⟨2, _⟩ => rfl | ⟨3, _⟩ => rfl
  simp only [e2, e3, score_at]

/-- The reference's first map of a head, read through its slice and its reshape. -/
theorem first_map (b : Fin 12) (h : Fin 4) (r n : Fin 4096) : idx_main_v37 (idx_main_v38 (ix4 b h r n)) = ix5 b h 0 r n := by
  have hb := b.isLt; have hh := h.isLt; have hr := r.isLt; have hn := n.isLt
  funext a
  match a with
  | ⟨0, _⟩ => exact Fin.ext (by show (((b.val * 4 + h.val) * 4096 + r.val) * 4096 + n.val) / 67108864 = b.val; omega)
  | ⟨1, _⟩ => exact Fin.ext (by show (((b.val * 4 + h.val) * 4096 + r.val) * 4096 + n.val) / 16777216 % 4 = h.val; omega)
  | ⟨2, _⟩ => rfl
  | ⟨3, _⟩ => exact Fin.ext (by show (((b.val * 4 + h.val) * 4096 + r.val) * 4096 + n.val) / 4096 % 4096 = r.val; omega)
  | ⟨4, _⟩ => exact Fin.ext (by show (((b.val * 4 + h.val) * 4096 + r.val) * 4096 + n.val) % 4096 = n.val; omega)

/-- The reference's second map of a head, read through its slice and its reshape. -/
theorem second_map (b : Fin 12) (h : Fin 4) (r n : Fin 4096) : idx_main_v39 (idx_main_v40 (ix4 b h r n)) = ix5 b h 1 r n := by
  have hb := b.isLt; have hh := h.isLt; have hr := r.isLt; have hn := n.isLt
  funext a
  match a with
  | ⟨0, _⟩ => exact Fin.ext (by show (((b.val * 4 + h.val) * 4096 + r.val) * 4096 + n.val) / 67108864 = b.val; omega)
  | ⟨1, _⟩ => exact Fin.ext (by show (((b.val * 4 + h.val) * 4096 + r.val) * 4096 + n.val) / 16777216 % 4 = h.val; omega)
  | ⟨2, _⟩ => rfl
  | ⟨3, _⟩ => exact Fin.ext (by show (((b.val * 4 + h.val) * 4096 + r.val) * 4096 + n.val) / 4096 % 4096 = r.val; omega)
  | ⟨4, _⟩ => exact Fin.ext (by show (((b.val * 4 + h.val) * 4096 + r.val) * 4096 + n.val) % 4096 = n.val; omega)

/-- The difference of the two maps. -/
theorem w_at (b : Fin 12) (h : Fin 4) (r n : Fin 4096) : val_main_v43 (F := Ideal) x0 x1 x3 (ix4 b h r n)
    = val_main_v36 (F := Ideal) x0 x1 (ix5 b h 0 r n) - lamOf x3 * val_main_v36 (F := Ideal) x0 x1 (ix5 b h 1 r n) := by
  rw [val_main_v43_apply, val_main_v42_apply, val_main_v41_apply, lam_at, val_main_v38_apply, val_main_v37_apply,
    val_main_v40_apply, val_main_v39_apply, first_map, second_map]
  rfl

/-- The head's value before its normalisation. -/
theorem o_at (b : Fin 12) (h : Fin 4) (r : Fin 4096) (e : Fin 128) : val_main_v45 (F := Ideal) x0 x1 x2 x3 (ix4 b r h e)
    = ∑ n : Fin 4096, x2 (ix2 ⟨b.val * 4096 + n.val, by omega⟩ ⟨h.val * 128 + e.val, by omega⟩)
        * (val_main_v36 (F := Ideal) x0 x1 (ix5 b h 0 r n) - lamOf x3 * val_main_v36 (F := Ideal) x0 x1 (ix5 b h 1 r n)) := by
  pointwise [val_main_v44_apply, val_main_v45_apply, val_main_v4, val_main_v5]
  have e1 : ∀ x, ridx_main_v44 (idx_main_v45 (ix4 b r h e)) x = ix4 b h r x := by
    intro x; funext a; match a with | ⟨0, _⟩ => rfl | ⟨1, _⟩ => rfl | ⟨2, _⟩ => rfl | ⟨3, _⟩ => rfl
  simp only [e1, w_at]

/-- The reference's result at a place, from the head's values of its row. -/
theorem res_at (j : S49152x512.Idx) : val_main_v63 (F := Ideal) x0 x1 x2 x3 x4 j
    = normed (fun e => val_main_v45 (F := Ideal) x0 x1 x2 x3
          (ix4 ⟨(j 0 : ℕ) / 4096, by have := (j 0).isLt; simp at this; omega⟩ ⟨(j 0 : ℕ) % 4096, by omega⟩ ⟨(j 1 : ℕ) / 128, by have := (j 1).isLt; simp at this; omega⟩ e))
        (x4 (ix2 0 ⟨(j 1 : ℕ) % 128, by omega⟩)) ⟨(j 1 : ℕ) % 128, by omega⟩ := by
  pointwise [val_main_v46, val_main_v47, val_main_v48, val_main_v49, val_main_v50, val_main_v51, val_main_v52, val_main_v53,
    val_main_v54, val_main_v55, val_main_v56, val_main_v57, val_main_v58, val_main_v59, val_main_v60, val_main_v61,
    val_main_v62, val_main_v63, val_main_cst_6, val_main_cst_7, val_main_cst_8, val_main_cst_9, normed]

/-- THE REFERENCE AT A PLACE: over real queries and keys its result is the kernel's form of the same head. -/
theorem ref_at (hq : ∀ i, ∃ r : ℝ, x0 i = (r : EReal)) (hk : ∀ i, ∃ r : ℝ, x1 i = (r : EReal)) (b : Fin 12) (h : Fin 4)
    (r : Fin 4096) (l : Fin 128) (j : S49152x512.Idx) (hj0 : (j 0 : ℕ) = b * 4096 + r) (hj1 : (j 1 : ℕ) = h * 128 + l) :
    val_main_v63 (F := Ideal) x0 x1 x2 x3 x4 j
      = normed (fun e => (∑ n : Fin 4096,
            (Ideal.exp2 (score x0 x1 b h 0 r n)
              - Ideal.div (lamOf x3 * ∑ n, Ideal.exp2 (score x0 x1 b h 0 r n)) (∑ n, Ideal.exp2 (score x0 x1 b h 1 r n))
                * Ideal.exp2 (score x0 x1 b h 1 r n))
              * x2 (ix2 ⟨b.val * 4096 + n.val, by omega⟩ ⟨h.val * 128 + e.val, by omega⟩))
            * Ideal.div 1 (∑ n, Ideal.exp2 (score x0 x1 b h 0 r n)))
          (x4 (ix2 0 l)) l := by
  have hs : ∀ b h c r n, ∃ s : ℝ, score x0 x1 b h c r n = (s : EReal) := fun b h c r n =>
    SoftmaxMath.dot_real _ _ (fun d => hq _) (fun d => hk _)
  have hsl : ∀ i, ∃ s : ℝ, val_main_v25 (F := Ideal) x0 x1 i = (s : EReal) := by
    intro i
    obtain ⟨a0, a1, a2, a3, a4, rfl⟩ : ∃ (a0 : Fin 12) (a1 : Fin 4) (a2 : Fin 2) (a3 a4 : Fin 4096), i = ix5 a0 a1 a2 a3 a4 :=
      ⟨i 0, i 1, i 2, i 3, i 4, by
        funext a; match a with | ⟨0, _⟩ => rfl | ⟨1, _⟩ => rfl | ⟨2, _⟩ => rfl | ⟨3, _⟩ => rfl | ⟨4, _⟩ => rfl⟩
    obtain ⟨s, e⟩ := hs a0 a1 a2 a3 a4
    exact ⟨s * Real.log 2, by rw [score_at, e, EReal.coe_mul]⟩
  have hb := b.isLt; have hh := h.isLt; have hr := r.isLt; have hl := l.isLt
  have c0 : (⟨(j 0 : ℕ) / 4096, by omega⟩ : Fin 12) = b := Fin.ext (by show (j 0 : ℕ) / 4096 = b; omega)
  have c1 : (⟨(j 0 : ℕ) % 4096, by omega⟩ : Fin 4096) = r := Fin.ext (by show (j 0 : ℕ) % 4096 = r; omega)
  have c2 : (⟨(j 1 : ℕ) / 128, by omega⟩ : Fin 4) = h := Fin.ext (by show (j 1 : ℕ) / 128 = h; omega)
  have c3 : (⟨(j 1 : ℕ) % 128, by omega⟩ : Fin 128) = l := Fin.ext (by show (j 1 : ℕ) % 128 = l; omega)
  rw [res_at]
  simp only [c0, c1, c2, c3]
  refine congrArg (fun f => normed f _ _) (funext fun e => ?_)
  rw [o_at]
  obtain ⟨M0, hM0⟩ := max_real x0 x1 hsl (ix4 b h 0 r)
  obtain ⟨M1, hM1⟩ := max_real x0 x1 hsl (ix4 b h 1 r)
  choose s0 hs0 using hs b h 0 r
  choose s1 hs1 using hs b h 1 r
  simp only [p_at, hM0, hM1, hs0, hs1]
  exact (SoftmaxMath.diff_softmax s0 s1 M0 M1 (lamOf x3) _).symm

end Cert.AttnA.Ref

end
-- ==== Proof.AttnAValue.lean ====
module

public import proofs.«01_k».proof.Proof.AttnAKernel
public import proofs.«01_k».proof.Proof.AttnARef

@[expose] public section

/-! The attention kernel's result array is the reference's. -/

set_option maxRecDepth 16384

noncomputable section

namespace Cert.AttnA

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The reference's result, as a function of the five arguments. -/
abbrev REF (x0 x1 x2 : FVec Ideal S49152x512 .bf16) (x3 : FVec Ideal S4x64 .f32) (x4 : FVec Ideal S1x128 .f32) :
    FVec Ideal S49152x512 .bf16 := Cert.ReferenceIdeal.Read.val_main_v63 (F := Ideal) x0 x1 x2 x3 x4

/-- Where each window's block lies at a grid point. -/
theorem idx : ∀ t : Fin cfg0.N, win0_0.index t = ![0, 0] ∧ win0_1.index t = ![t.val, 0] ∧ win0_2.index t = ![t.val / 16, 0]
    ∧ win0_3.index t = ![t.val / 16, 0] ∧ win0_4.index t = ![0, 0] ∧ win0_5.index t = ![t.val, 0] :=
  (by decide +kernel : ∀ t : Fin grid0.N, win0_0.index t = ![0, 0] ∧ win0_1.index t = ![t.val, 0] ∧ win0_2.index t = ![t.val / 16, 0]
    ∧ win0_3.index t = ![t.val / 16, 0] ∧ win0_4.index t = ![0, 0] ∧ win0_5.index t = ![t.val, 0])

/-- One head of one block: its slices of the block's queries, keys and values give the reference there. -/
theorem core (c : Dev nD) (t : Fin cfg0.N)
    (hq : ∀ i, ∃ r : ℝ, m ((c : Thread nD τ).loc main_arg0) i = (r : EReal))
    (hk : ∀ i, ∃ r : ℝ, m ((c : Thread nD τ).loc main_arg1) i = (r : EReal))
    (h : Fin 4) (x : S256x128.Idx) (j : S49152x512.Idx)
    (hj0 : (j 0 : ℕ) = t.val * 256 + x 0) (hj1 : (j 1 : ℕ) = h * 128 + x 1)
    (lam : FVec Ideal S1x1 .f32) (q : FVec Ideal S256x128 .bf16) (k v : FVec Ideal S4096x128 .bf16) (g : FVec Ideal S1x128 .f32)
    (elam : ∀ i, lam i = lamOf (m ((c : Thread nD τ).loc main_arg3)))
    (eq : ∀ (a : Fin 256) (d : Fin 128), q (ix2 a d) = m ((c : Thread nD τ).loc main_arg0) (ix2 ⟨t.val * 256 + a.val, by have := t.isLt; have : cfg0.N = 192 := rfl; omega⟩ ⟨h.val * 128 + d.val, by omega⟩))
    (ek : ∀ (a : Fin 4096) (d : Fin 128), k (ix2 a d) = m ((c : Thread nD τ).loc main_arg1) (ix2 ⟨t.val / 16 * 4096 + a.val, by have := t.isLt; have : cfg0.N = 192 := rfl; omega⟩ ⟨h.val * 128 + d.val, by omega⟩))
    (ev : ∀ (a : Fin 4096) (d : Fin 128), v (ix2 a d) = m ((c : Thread nD τ).loc main_arg2) (ix2 ⟨t.val / 16 * 4096 + a.val, by have := t.isLt; have : cfg0.N = 192 := rfl; omega⟩ ⟨h.val * 128 + d.val, by omega⟩))
    (eg : ∀ (d : Fin 128), g (ix2 0 d) = m ((c : Thread nD τ).loc main_arg4) (ix2 0 d)) :
    head lam q k v g x = REF (m ((c : Thread nD τ).loc main_arg0)) (m ((c : Thread nD τ).loc main_arg1))
      (m ((c : Thread nD τ).loc main_arg2)) (m ((c : Thread nD τ).loc main_arg3)) (m ((c : Thread nD τ).loc main_arg4)) j := by
  have ht : t.val < 192 := t.isLt
  obtain ⟨r, l, rfl⟩ : ∃ (r : Fin 256) (l : Fin 128), x = ix2 r l := ⟨x 0, x 1, by
    funext a; match a with | ⟨0, _⟩ => rfl | ⟨1, _⟩ => rfl⟩
  have hr := r.isLt
  rw [REF, Ref.ref_at _ _ _ _ _ hq hk ⟨t.val / 16, by omega⟩ h ⟨t.val % 16 * 256 + r.val, by omega⟩ l j
    (by rw [hj0]; show t.val * 256 + r.val = t.val / 16 * 4096 + (t.val % 16 * 256 + r.val); omega) hj1]
  rw [head_at lam q k v g _ (Ref.score (m ((c : Thread nD τ).loc main_arg0)) (m ((c : Thread nD τ).loc main_arg1)) ⟨t.val / 16, by omega⟩ h 0 ⟨t.val % 16 * 256 + r.val, by omega⟩)
    (Ref.score (m ((c : Thread nD τ).loc main_arg0)) (m ((c : Thread nD τ).loc main_arg1)) ⟨t.val / 16, by omega⟩ h 1 ⟨t.val % 16 * 256 + r.val, by omega⟩)]
  · simp only [elam]
    show normed _ (g (ix2 0 l)) l = _
    rw [eg]
    refine congrArg (fun f => normed f _ _) (funext fun e => congrArg (· * _) (Finset.sum_congr rfl fun n _ => congrArg₂ (· * ·) rfl ?_))
    exact ev n e
  · intro n
    refine Finset.sum_congr rfl fun d _ => congrArg₂ (· * ·) ?_ ?_
    · refine Eq.trans ?_ (eq r ⟨d.val, by omega⟩).symm
      blk_ext
    · refine Eq.trans ?_ (ek n ⟨d.val, by omega⟩).symm
      blk_ext
  · intro n
    refine Finset.sum_congr rfl fun d _ => congrArg₂ (· * ·) ?_ ?_
    · refine Eq.trans ?_ (eq r ⟨64 + d.val, by omega⟩).symm
      blk_ext
    · refine Eq.trans ?_ (ek n ⟨64 + d.val, by omega⟩).symm
      blk_ext

/-- What a grid point leaves in its block, at a place of the block. -/
theorem point (c : Dev nD) (t : Fin cfg0.N)
    (hq : ∀ i, ∃ r : ℝ, m ((c : Thread nD τ).loc main_arg0) i = (r : EReal))
    (hk : ∀ i, ∃ r : ℝ, m ((c : Thread nD τ).loc main_arg1) i = (r : EReal)) (y : S256x512.Idx) (j : S49152x512.Idx)
    (hj0 : (j 0 : ℕ) = t.val * 256 + y 0) (hj1 : (j 1 : ℕ) = y 1) :
    out0_5 (iblk m c 0 t) (iblk m c 1 t) (iblk m c 2 t) (iblk m c 3 t) (iblk m c 4 t) y
      = REF (m ((c : Thread nD τ).loc main_arg0)) (m ((c : Thread nD τ).loc main_arg1))
        (m ((c : Thread nD τ).loc main_arg2)) (m ((c : Thread nD τ).loc main_arg3)) (m ((c : Thread nD τ).loc main_arg4)) j := by
  canon_tiles x h
  case piece0 =>
    refine (congrFun (head3 (k0_pay2 (F := Ideal) (View.ld (iblk m c 0 t) r0_0)) (View.ld (iblk m c 1 t) r0_8) (View.ld (iblk m c 2 t) r0_9)
      (View.ld (iblk m c 3 t) r0_9) (View.ld (iblk m c 4 t) r0_5)) x).trans (core m c t hq hk 3 x j ?_ ?_ _ _ _ _ _ ?_ ?_ ?_ ?_ ?_)
    · omega
    · simp only [Fin.isValue]; omega
    · intro i; rw [lam_at]; refine congrArg lamOf ?_; funext z; pointwise; blk_point [iblk, V, idx t]
    · intro a d; pointwise; blk_point [iblk, V, idx t]
    · intro a d; pointwise; blk_point [iblk, V, idx t]
    · intro a d; pointwise; blk_point [iblk, V, idx t]
    · intro d; pointwise; blk_point [iblk, V, idx t]
  case piece1 =>
    refine (congrFun (head2 (k0_pay2 (F := Ideal) (View.ld (iblk m c 0 t) r0_0)) (View.ld (iblk m c 1 t) r0_6) (View.ld (iblk m c 2 t) r0_7)
      (View.ld (iblk m c 3 t) r0_7) (View.ld (iblk m c 4 t) r0_5)) x).trans (core m c t hq hk 2 x j ?_ ?_ _ _ _ _ _ ?_ ?_ ?_ ?_ ?_)
    · omega
    · simp only [Fin.isValue]; omega
    · intro i; rw [lam_at]; refine congrArg lamOf ?_; funext z; pointwise; blk_point [iblk, V, idx t]
    · intro a d; pointwise; blk_point [iblk, V, idx t]
    · intro a d; pointwise; blk_point [iblk, V, idx t]
    · intro a d; pointwise; blk_point [iblk, V, idx t]
    · intro d; pointwise; blk_point [iblk, V, idx t]
  case piece2 =>
    refine (congrFun (head1 (k0_pay2 (F := Ideal) (View.ld (iblk m c 0 t) r0_0)) (View.ld (iblk m c 1 t) r0_3) (View.ld (iblk m c 2 t) r0_4)
      (View.ld (iblk m c 3 t) r0_4) (View.ld (iblk m c 4 t) r0_5)) x).trans (core m c t hq hk 1 x j ?_ ?_ _ _ _ _ _ ?_ ?_ ?_ ?_ ?_)
    · omega
    · simp only [Fin.isValue]; omega
    · intro i; rw [lam_at]; refine congrArg lamOf ?_; funext z; pointwise; blk_point [iblk, V, idx t]
    · intro a d; pointwise; blk_point [iblk, V, idx t]
    · intro a d; pointwise; blk_point [iblk, V, idx t]
    · intro a d; pointwise; blk_point [iblk, V, idx t]
    · intro d; pointwise; blk_point [iblk, V, idx t]
  case piece3 =>
    refine (congrFun (head0 (k0_pay2 (F := Ideal) (View.ld (iblk m c 0 t) r0_0)) (View.ld (iblk m c 1 t) r0_1) (View.ld (iblk m c 2 t) r0_2)
      (View.ld (iblk m c 3 t) r0_2) (View.ld (iblk m c 4 t) r0_5)) x).trans (core m c t hq hk 0 x j ?_ ?_ _ _ _ _ _ ?_ ?_ ?_ ?_ ?_)
    · omega
    · simp only [Fin.isValue]; omega
    · intro i; rw [lam_at]; refine congrArg lamOf ?_; funext z; pointwise; blk_point [iblk, V, idx t]
    · intro a d; pointwise; blk_point [iblk, V, idx t]
    · intro a d; pointwise; blk_point [iblk, V, idx t]
    · intro a d; pointwise; blk_point [iblk, V, idx t]
    · intro d; pointwise; blk_point [iblk, V, idx t]

/-- The output blocks cover the array. -/
theorem final (c : Dev nD) (hq : ∀ i, ∃ r : ℝ, m ((c : Thread nD τ).loc main_arg0) i = (r : EReal))
    (hk : ∀ i, ∃ r : ℝ, m ((c : Thread nD τ).loc main_arg1) i = (r : EReal)) :
    (dats m 0 c).arrAt 5 (cfgs 0).N = REF (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  rw [after0_5]
  refine point m c t hq hk y _ ?_ ?_
  · blk_simp [idx t] <;> try omega
  · blk_simp [idx t] <;> try omega

end Cert.AttnA

end
-- ==== Proof.AttnAClaim.lean ====
module

public import proofs.«01_k».proof.Defs
public import proofs.«01_k».proof.Proof.AttnAValue
public import proofs.«01_k».proof.Proof.Gen.Pre_finite_qk
public import Idealize.ShloMosaic.Lib.Claim

@[expose] public section

/-! The claim that the attention kernel computes the reference. -/

set_option maxRecDepth 16384

noncomputable section

namespace Cert.AttnA

open Idealize.ShloMosaic Idealize.ShloMosaic.TcCoe Idealize.SL.Sem

/-- A value whose magnitude is below infinity is real. -/
theorem real_of_abs_lt (x : EReal) (h : max x (-x) < ⊤) : ∃ r : ℝ, x = (r : EReal) := by
  induction x with
  | bot => simp at h
  | coe r => exact ⟨r, rfl⟩
  | top => simp at h

/-- The precondition says that every query and every key is real. -/
theorem real_of_pre (x0 x1 x2 : FVec Ideal ⟨2, ![49152, 512]⟩ .bf16) (x3 : FVec Ideal ⟨2, ![4, 64]⟩ .f32) (x4 : FVec Ideal ⟨2, ![1, 128]⟩ .f32)
    (h : Cert.Pre_finite_qk.fn (F := Ideal) x0 x1 x2 x3 x4 = fun _ => 1#1) (i : (⟨2, ![49152, 512]⟩ : Shape).Idx) :
    (∃ r : ℝ, x0 i = (r : EReal)) ∧ ∃ r : ℝ, x1 i = (r : EReal) := by
  have h' := congrFun h i
  revert h'
  pointwise [Cert.Pre_finite_qk.fn]
  have htop : Ideal.ofBits .f32 2139095040#32 = ⊤ := by simp [Ideal.ofBits, Ideal.ieee]
  rw [htop]
  intro hand
  have hx : ∀ p q : Bool, IntOp.andi (BitVec.ofBool p) (BitVec.ofBool q) = 1#1 → p = true ∧ q = true := by decide
  obtain ⟨ha, hb⟩ := hx _ _ hand
  exact ⟨real_of_abs_lt _ (of_decide_eq_true ha), real_of_abs_lt _ (of_decide_eq_true hb)⟩

/-- At the ideal values the kernel computes the reference, over finite queries and keys. -/
theorem algebraic : Cert.algebraic_KernelIdeal_ReferenceIdeal_pre_finite_qk := by
  pair_intro
  · run_from Cert.KernelIdeal.Gen.run_main m g
  · run_from Cert.ReferenceIdeal.Value.run m' g'
    obtain ⟨e0, e1, e2, e3, e4⟩ := hagree c
    rw [Cert.ReferenceIdeal.Read.val_main_v63_eq, e0, e1, e2, e3, e4]
    exact (final m c (fun i => (real_of_pre _ _ _ _ _ (hpre c) i).1) (fun i => (real_of_pre _ _ _ _ _ (hpre c) i).2)).symm

end Cert.AttnA

end
-- ==== Proof.FfnMath.lean ====
module

public import Idealize.ShloMosaic.Lib.Pointwise
public import Idealize.ShloMosaic.Lib.Pipeline.ValueKit

@[expose] public section

/-! The gated feed-forward block of one row, as a function of the row and the weights. -/

noncomputable section

namespace Cert.FfnMath

open Idealize.ShloMosaic

/-- A row divided by its root mean square and scaled by a gain. -/
def normRow (x g : Fin 1024 → EReal) (d : Fin 1024) : EReal :=
  x d * Ideal.rsqrt (Ideal.div (∑ e, x e * x e) (Ideal.ofBits .f32 1149239296#32) + Ideal.ofBits .f32 897988541#32) * g d

/-- The logistic function of a value, by its quotient. -/
def gateOf (a : EReal) : EReal := Ideal.div 1 (1 + Ideal.exp (-a))

/-- One hidden unit: its gate times the logistic function of its gate, times its linear part. -/
def unitOf (h wg wu : Fin 1024 → EReal) : EReal :=
  (∑ d, h d * wg d) * gateOf (∑ d, h d * wg d) * ∑ d, h d * wu d

/-- One output channel of the block: the row's own value and the weighted sum of the 2816 hidden units. -/
def ffn (x g : Fin 1024 → EReal) (wg wu : Fin 1024 → Fin 2816 → EReal) (wd : Fin 2816 → EReal) (c : Fin 1024) : EReal :=
  x c + ∑ f, unitOf (normRow x g) (wg · f) (wu · f) * wd f

/-- A sum over the hidden units, taken in the three chunks of the kernel. -/
theorem sum_chunks (a : Fin 2816 → EReal) (y : EReal) :
    y + (∑ f : Fin 1024, a ⟨f.val, by omega⟩) + (∑ f : Fin 1024, a ⟨1024 + f.val, by omega⟩)
      + (∑ f : Fin 768, a ⟨2048 + f.val, by omega⟩) = y + ∑ f, a f := by
  rw [Fin.sum_univ_two_halves 2048 768 rfl, Fin.sum_univ_two_halves 1024 1024 rfl]
  simp only [add_assoc]

end Cert.FfnMath

end
-- ==== Proof.FfnKernel.lean ====
module

public import proofs.«01_k».proof.Proof.Gen.Kernel2Ideal.Value
public import proofs.«01_k».proof.Proof.FfnMath

@[expose] public section

/-! The feed-forward kernel's block at an index. -/

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)
open Cert.FfnMath

/-- The normalised row. -/
theorem norm_at (x : FVec Ideal S512x1024 .f32) (g : FVec Ideal S1x1024 .f32) (j : S512x1024.Idx) :
    k0_pay2 (F := Ideal) x g j = normRow (fun d => x (ix2 (j 0) d)) (fun d => g (ix2 0 d)) (j 1) := by
  pointwise [k0_pay2, normRow]

/-- The first chunk of the hidden units, added to the row. -/
theorem first_at (x : FVec Ideal S512x1024 .f32) (g : FVec Ideal S1x1024 .f32) (wg wu wd : FVec Ideal S1x1024x1024 .bf16) (j : S512x1024.Idx) :
    k0_pay3 (F := Ideal) x g wg wu wd j = x j + ∑ f : Fin 1024,
      unitOf (fun d => k0_pay2 (F := Ideal) x g (ix2 (j 0) d)) (fun d => wg (ix3 0 d f)) (fun d => wu (ix3 0 d f)) * wd (ix3 0 f (j 1)) := by
  pointwise [k0_pay3, k0_pay2, unitOf, gateOf, zero_sub]

/-- The second chunk of the hidden units. -/
theorem second_at (h : FVec Ideal S512x1024 .bf16) (y : FVec Ideal S512x1024 .f32) (wg wu wd : FVec Ideal S1x1024x1024 .bf16) (j : S512x1024.Idx) :
    k0_pay4 (F := Ideal) h y wg wu wd j = y j + ∑ f : Fin 1024,
      unitOf (fun d => h (ix2 (j 0) d)) (fun d => wg (ix3 0 d f)) (fun d => wu (ix3 0 d f)) * wd (ix3 0 f (j 1)) := by
  pointwise [k0_pay4, unitOf, gateOf, zero_sub]

/-- The last chunk of the hidden units. -/
theorem last_at (h : FVec Ideal S512x1024 .bf16) (y : FVec Ideal S512x1024 .f32) (wg wu : FVec Ideal S1x1024x768 .bf16)
    (wd : FVec Ideal S1x768x1024 .bf16) (j : S512x1024.Idx) :
    k0_pay1 (F := Ideal) y (k0_pay5 (F := Ideal) h wg wu) wd j = y j + ∑ f : Fin 768,
      unitOf (fun d => h (ix2 (j 0) d)) (fun d => wg (ix3 0 d f)) (fun d => wu (ix3 0 d f)) * wd (ix3 0 f (j 1)) := by
  pointwise [k0_pay1, k0_pay5, unitOf, gateOf, zero_sub]

/-- The block a grid point writes, at a row and a channel of it. -/
theorem block_at (x : FVec Ideal S512x1024 .f32) (g : FVec Ideal S1x1024 .f32) (wg wu : FVec Ideal S1x1024x2816 .bf16)
    (wd : FVec Ideal S1x2816x1024 .bf16) (j : S512x1024.Idx) :
    out0_5 (F := Ideal) x g wg wu wd j
      = ffn (fun d => x (ix2 (j 0) d)) (fun d => g (ix2 0 d)) (fun d f => wg (ix3 0 d f)) (fun d f => wu (ix3 0 d f))
          (fun f => wd (ix3 0 f (j 1))) (j 1) := by
  have ex : ∀ i, View.ld (Val := Elt Ideal) (e' := .f32) x r0_0 i = x i := by intro i; pointwise
  have eg : ∀ i, View.ld (Val := Elt Ideal) (e' := .f32) g r0_1 i = g i := by
    intro i
    pointwise
    refine congrArg g ?_
    funext a; match a with | ⟨0, _⟩ => exact Fin.ext (by have := (i 0).isLt; simp at this ⊢) | ⟨1, _⟩ => rfl
  have w0 : ∀ (w : FVec Ideal S1x1024x2816 .bf16) (d f : Fin 1024), View.ld (Val := Elt Ideal) (e' := .bf16) w r0_2 (ix3 0 d f) = w (ix3 0 d ⟨f.val, by omega⟩) := by
    intro w d f; pointwise
  have w1 : ∀ (w : FVec Ideal S1x1024x2816 .bf16) (d f : Fin 1024), View.ld (Val := Elt Ideal) (e' := .bf16) w r0_4 (ix3 0 d f) = w (ix3 0 d ⟨1024 + f.val, by omega⟩) := by
    intro w d f; pointwise
  have w2 : ∀ (w : FVec Ideal S1x1024x2816 .bf16) (d : Fin 1024) (f : Fin 768), View.ld (Val := Elt Ideal) (e' := .bf16) w r0_6 (ix3 0 d f) = w (ix3 0 d ⟨2048 + f.val, by omega⟩) := by
    intro w d f; pointwise
  have d0 : ∀ (f c : Fin 1024), View.ld (Val := Elt Ideal) (e' := .bf16) wd r0_3 (ix3 0 f c) = wd (ix3 0 ⟨f.val, by omega⟩ c) := by intro f c; pointwise
  have d1 : ∀ (f c : Fin 1024), View.ld (Val := Elt Ideal) (e' := .bf16) wd r0_5 (ix3 0 f c) = wd (ix3 0 ⟨1024 + f.val, by omega⟩ c) := by intro f c; pointwise
  have d2 : ∀ (f : Fin 768) (c : Fin 1024), View.ld (Val := Elt Ideal) (e' := .bf16) wd r0_7 (ix3 0 f c) = wd (ix3 0 ⟨2048 + f.val, by omega⟩ c) := by intro f c; pointwise
  canon_tiles z hz
  have e : z = j := by
    funext a; match a with | ⟨0, _⟩ => exact Fin.ext hz0.symm | ⟨1, _⟩ => exact Fin.ext hz1.symm
  subst e
  rw [last_at, second_at]
  unfold k0_pay6
  rw [first_at]
  simp only [norm_at, ex, eg]
  unfold ffn
  rw [← sum_chunks]
  refine congrArg₂ (· + ·) (congrArg₂ (· + ·) (congrArg₂ (· + ·) ?_ ?_) ?_) ?_
  · exact congrArg x (by funext a; match a with | ⟨0, _⟩ => rfl | ⟨1, _⟩ => rfl)
  · refine Finset.sum_congr rfl fun f _ => congrArg₂ (· * ·) ?_ (d0 f (z 1))
    exact congr (congr (congrArg unitOf rfl) (funext fun d => w0 wg d f)) (funext fun d => w0 wu d f)
  · refine Finset.sum_congr rfl fun f _ => congrArg₂ (· * ·) ?_ (d1 f (z 1))
    exact congr (congr (congrArg unitOf rfl) (funext fun d => w1 wg d f)) (funext fun d => w1 wu d f)
  · refine Finset.sum_congr rfl fun f _ => congrArg₂ (· * ·) ?_ (d2 f (z 1))
    exact congr (congr (congrArg unitOf rfl) (funext fun d => w2 wg d f)) (funext fun d => w2 wu d f)

end Cert.Ffn

end
-- ==== Proof.FfnRef.lean ====
module

public import proofs.«01_k».proof.Proof.Gen.Reference2Ideal.Run
public import proofs.«01_k».proof.Proof.Gen.Reference2Ideal.Read
public import proofs.«01_k».proof.Proof.FfnMath

@[expose] public section

/-! The reference's feed-forward block read at an index. -/

set_option maxRecDepth 16384

noncomputable section

namespace Cert.Ffn.Ref

open Cert.FfnMath
open Cert Cert.Reference2Ideal Cert.Reference2Ideal.Gen Cert.Reference2Ideal.Read Idealize.ShloMosaic Idealize.ShloMosaic.TcCoe Idealize.SL.Sem

variable (x0 : (⟨S49152x1024, .f32⟩ : BufTy).Contents (Elt Ideal)) (x1 : (⟨S2x1024, .f32⟩ : BufTy).Contents (Elt Ideal))
  (x2 x3 : (⟨S2x1024x2816, .f32⟩ : BufTy).Contents (Elt Ideal)) (x4 : (⟨S2x2816x1024, .f32⟩ : BufTy).Contents (Elt Ideal))

/-- The normalised row. -/
theorem norm_at (j : S49152x1024.Idx) :
    val_main_v14 (F := Ideal) x0 x1 j = normRow (fun d => x0 (ix2 (j 0) d)) (fun d => x1 (ix2 0 d)) (j 1) := by
  pointwise [val_main_v0, val_main_v1, val_main_v2, val_main_v3, val_main_v4, val_main_v5, val_main_v6, val_main_v7,
    val_main_v8, val_main_v9, val_main_v10, val_main_v11, val_main_v12, val_main_v13, val_main_v14, val_main_cst,
    val_main_cst_0, val_main_cst_1, normRow]

/-- A hidden unit. -/
theorem unit_at (j : S49152x2816.Idx) : val_main_v22 (F := Ideal) x0 x1 x2 x3 j
    = unitOf (normRow (fun d => x0 (ix2 (j 0) d)) (fun d => x1 (ix2 0 d))) (fun d => x2 (ix3 0 d (j 1))) (fun d => x3 (ix3 0 d (j 1))) := by
  pointwise [val_main_v22, val_main_v18, val_main_v21, val_main_v17, val_main_v20, val_main_v19, val_main_v16, val_main_v15,
    val_main_call0_v5, val_main_call0_v4, val_main_call0_v3, val_main_call0_v2, val_main_call0_v1, val_main_call0_v0,
    val_main_call0_cst, val_main_call0_cst_0, norm_at, unitOf, gateOf]

/-- The reference at a place. -/
theorem ref_at (j : S49152x1024.Idx) : val_main_v26 (F := Ideal) x0 x1 x2 x3 x4 j
    = ffn (fun d => x0 (ix2 (j 0) d)) (fun d => x1 (ix2 0 d)) (fun d f => x2 (ix3 0 d f)) (fun d f => x3 (ix3 0 d f))
        (fun f => x4 (ix3 0 f (j 1))) (j 1) := by
  pointwise [val_main_v26, val_main_v25, val_main_v24, val_main_v23, unit_at, ffn]

end Cert.Ffn.Ref

end
-- ==== Proof.FfnValue.lean ====
module

public import proofs.«01_k».proof.Defs
public import proofs.«01_k».proof.Proof.FfnKernel
public import proofs.«01_k».proof.Proof.FfnRef
public import Idealize.ShloMosaic.Lib.Claim

@[expose] public section

/-! The feed-forward kernel's result array is the reference's, and the claim that says so. -/

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)
open Cert.FfnMath

variable (m : (ℓ : Loc nD τ sig) → Buf (Elt Ideal) ℓ)

/-- The reference's result, as a function of the five arguments. -/
abbrev REF (x0 : FVec Ideal S49152x1024 .f32) (x1 : FVec Ideal S2x1024 .f32) (x2 x3 : FVec Ideal S2x1024x2816 .f32)
    (x4 : FVec Ideal S2x2816x1024 .f32) : FVec Ideal S49152x1024 .f32 :=
  Cert.Reference2Ideal.Read.val_main_v26 (F := Ideal) x0 x1 x2 x3 x4

/-- Where each window's block lies at a grid point. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0] :=
  (by decide +kernel : ∀ t : Fin grid0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0])

/-- What a grid point leaves in its block, at a place of the block. -/
theorem point (c : Dev nD) (t : Fin cfg0.N) (y : S512x1024.Idx) (j : S49152x1024.Idx)
    (hj0 : (j 0 : ℕ) = t.val * 512 + y 0) (hj1 : (j 1 : ℕ) = y 1) :
    out0_5 (iblk m c 0 t) (iblk m c 1 t) (iblk m c 2 t) (iblk m c 3 t) (iblk m c 4 t) y
      = REF (m ((c : Thread nD τ).loc main_arg0)) (m ((c : Thread nD τ).loc main_arg1))
        (m ((c : Thread nD τ).loc main_arg2)) (m ((c : Thread nD τ).loc main_arg3)) (m ((c : Thread nD τ).loc main_arg4)) j := by
  rw [REF, block_at, Ref.ref_at]
  have e1 : (y 1 : Fin 1024) = j 1 := Fin.ext hj1.symm
  have hx : (fun d : Fin 1024 => iblk m c 0 t (ix2 (y 0) d)) = fun d => m ((c : Thread nD τ).loc main_arg0) (ix2 (j 0) d) := by
    funext d; blk_point [iblk, V, idx t]
  have hg : (fun d : Fin 1024 => iblk m c 1 t (ix2 0 d)) = fun d => m ((c : Thread nD τ).loc main_arg1) (ix2 0 d) := by
    funext d; blk_point [iblk, V, idx t]
  have h2 : (fun (d : Fin 1024) (f : Fin 2816) => iblk m c 2 t (ix3 0 d f)) = fun d f => m ((c : Thread nD τ).loc main_arg2) (ix3 0 d f) := by
    funext d f; blk_point [iblk, V, idx t]
  have h3 : (fun (d : Fin 1024) (f : Fin 2816) => iblk m c 3 t (ix3 0 d f)) = fun d f => m ((c : Thread nD τ).loc main_arg3) (ix3 0 d f) := by
    funext d f; blk_point [iblk, V, idx t]
  have h4 : (fun (f : Fin 2816) => iblk m c 4 t (ix3 0 f (y 1))) = fun f => m ((c : Thread nD τ).loc main_arg4) (ix3 0 f (j 1)) := by
    funext f; blk_point [iblk, V, idx t]
  rw [hx, hg, h2, h3, h4, e1]

/-- The output blocks cover the array. -/
theorem final (c : Dev nD) : (dats m 0 c).arrAt 5 (cfgs 0).N
    = REF (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  rw [after0_5]
  have hp := point m c t y
  generalize REF (m ((c : Thread nD τ).loc main_arg0)) (m ((c : Thread nD τ).loc main_arg1))
    (m ((c : Thread nD τ).loc main_arg2)) (m ((c : Thread nD τ).loc main_arg3)) (m ((c : Thread nD τ).loc main_arg4)) = R at hp ⊢
  generalize out0_5 (iblk m c 0 t) (iblk m c 1 t) (iblk m c 2 t) (iblk m c 3 t) (iblk m c 4 t) = o at hp ⊢
  refine hp _ ?_ ?_
  · blk_simp [idx t] <;> try omega
  · blk_simp [idx t] <;> try omega

/-- At the ideal values the kernel computes the reference. -/
theorem algebraic : Cert.algebraic_Kernel2Ideal_Reference2Ideal := by
  pair_intro
  · run_from Cert.Kernel2Ideal.Value.run_blocks m g
  · run_from Cert.Reference2Ideal.Value.run m' g'
    obtain ⟨e0, e1, e2, e3, e4⟩ := hagree c
    rw [Cert.Reference2Ideal.Read.val_main_v26_eq]
    exact (final m c).symm

end Cert.Ffn

end
-- ==== Proof.AttnCKernel.lean ====
module

public import proofs.«01_k».proof.Proof.Gen.Kernel3Ideal.Value
public import Idealize.ShloMosaic.Lib.Pointwise
public import Idealize.ShloMosaic.Lib.Pipeline.ValueKit

@[expose] public section

/-! The latent attention kernel's four heads are one function of their slices; this module names it and reads it at an
    index. -/

set_option maxRecDepth 16384

noncomputable section

namespace Cert.AttnC

open Cert.Kernel3Ideal Cert.Kernel3Ideal.Gen Idealize.ShloMosaic Idealize.ShloMosaic.TcCoe Idealize.SL.Sem
open Idealize.ShloMosaic.Pipeline (Dat)

/-- One head: from its queries, its keys and the 128 value lanes it shares with its neighbour. -/
def head (q : FVec Ideal S256x128 .bf16) (k v : FVec Ideal S4096x128 .bf16) : FVec Ideal S256x128 .f32 :=
  k0_pay4 (F := Ideal) (k0_pay2 q k) (k0_pay3 q k) v

/-- The second head of a step is the same function. -/
theorem head1 (q : FVec Ideal S256x128 .bf16) (k v : FVec Ideal S4096x128 .bf16) :
    k0_pay7 (F := Ideal) (k0_pay5 q k) (k0_pay6 q k) v = head q k v := rfl

/-- The third head of a step is the same function. -/
theorem head2 (q : FVec Ideal S256x128 .bf16) (k v : FVec Ideal S4096x128 .bf16) :
    k0_pay10 (F := Ideal) (k0_pay8 q k) (k0_pay9 q k) v = head q k v := rfl

/-- The fourth head of a step is the same function. -/
theorem head3 (q : FVec Ideal S256x128 .bf16) (k v : FVec Ideal S4096x128 .bf16) :
    k0_pay13 (F := Ideal) (k0_pay11 q k) (k0_pay12 q k) v = head q k v := rfl

/-- The scores, two to their power. -/
theorem score_at (q : FVec Ideal S256x128 .bf16) (k : FVec Ideal S4096x128 .bf16) (j : S256x4096.Idx) :
    k0_pay2 (F := Ideal) q k j = Ideal.exp2 (∑ d : Fin 128, q (ix2 (j 0) d) * k (ix2 (j 1) d)) := by
  pointwise [k0_pay2]
  rfl

/-- The weighted sum of the values over the row sum, which is thirty-two slices of 128 columns added up and then summed
    over the lanes. -/
theorem mean_at (q : FVec Ideal S256x128 .bf16) (k v : FVec Ideal S4096x128 .bf16) (j : S256x128.Idx) :
    head q k v j = (∑ n : Fin 4096, k0_pay2 (F := Ideal) q k (ix2 (j 0) n) * v (ix2 n (j 1)))
      * Ideal.div 1 (∑ n : Fin 4096, k0_pay2 (F := Ideal) q k (ix2 (j 0) n)) := by
  unfold head k0_pay3
  generalize k0_pay2 (F := Ideal) q k = E
  pointwise [k0_pay4]
  refine congrArg (_ * Ideal.div 1 ·) ?_
  rw [Fin.sum_univ_tiles 32 128 rfl, Finset.sum_comm]
  refine Finset.sum_congr rfl fun x _ => ?_
  simp only [Fin.sum_univ_castSucc, Fin.sum_univ_zero, zero_add, Fin.val_last, Fin.val_castSucc, Nat.reduceMul, Nat.zero_add, Nat.reduceAdd, Fin.val_zero, Nat.zero_mul]
  try rfl

/-- A head at a row and a lane, from its scores. -/
theorem head_at (q : FVec Ideal S256x128 .bf16) (k v : FVec Ideal S4096x128 .bf16) (j : S256x128.Idx) (s : Fin 4096 → EReal)
    (hs : ∀ n, s n = ∑ d : Fin 128, q (ix2 (j 0) d) * k (ix2 n d)) :
    head q k v j = (∑ n : Fin 4096, Ideal.exp2 (s n) * v (ix2 n (j 1))) * Ideal.div 1 (∑ n, Ideal.exp2 (s n)) := by
  have e : ∀ n : Fin 4096, k0_pay2 (F := Ideal) q k (ix2 (j 0) n) = Ideal.exp2 (s n) := fun n => by
    rw [score_at, hs]; rfl
  rw [mean_at]
  simp only [e]

/-- The lane numbers. -/
abbrev lanes : IVec S256x128 32 := iota .tc S256x128 32 [1] iota_S256x128_d1_w32

/-- A lane of the first half is below 64. -/
theorem lane_lt (i : Fin 128) : i.val < 64 → IntOp.cmpi CmpIPredicate.slt (BitVec.ofNat 32 i.val) 64#32 = 1#1 := by
  revert i; decide +kernel

/-- A lane of the second half is not below 64. -/
theorem lane_ge (i : Fin 128) : ¬ i.val < 64 → IntOp.cmpi CmpIPredicate.slt (BitVec.ofNat 32 i.val) 64#32 = 0#1 := by
  revert i; decide +kernel

/-- The second store's block takes the third head on the first 64 lanes and the fourth on the others. -/
theorem pick1_at (a b : FVec Ideal S256x128 .f32) (j : S256x128.Idx) :
    k0_pay1 (F := Ideal) a b (k0_pay15 lanes) j = if (j 1).val < 64 then a j else b j := by
  pointwise [k0_pay1, k0_pay15]
  split
  · next h => exact (congrArg (Scalar.select · (a j) (b j)) (lane_lt (j 1) h)).trans rfl
  · next h => exact (congrArg (Scalar.select · (a j) (b j)) (lane_ge (j 1) h)).trans rfl

/-- The first store's block takes the first head on the first 64 lanes and the second on the others. -/
theorem pick0_at (a b : FVec Ideal S256x128 .f32) (j : S256x128.Idx) :
    k0_pay14 (F := Ideal) lanes a b j = if (j 1).val < 64 then a j else b j := by
  pointwise [k0_pay14]
  split
  · next h => exact (congrArg (Scalar.select · (a j) (b j)) (lane_lt (j 1) h)).trans rfl
  · next h => exact (congrArg (Scalar.select · (a j) (b j)) (lane_ge (j 1) h)).trans rfl

end Cert.AttnC

end
-- ==== Proof.AttnCRef.lean ====
module

public import proofs.«01_k».proof.Proof.Gen.Reference3Ideal.Run
public import proofs.«01_k».proof.Proof.Gen.Reference3Ideal.Read
public import proofs.«01_k».proof.Proof.AttnARef

@[expose] public section

/-! The reference's latent attention read at an index. -/

set_option maxRecDepth 16384

noncomputable section

namespace Cert.AttnC

open Idealize.ShloMosaic

/-- Powers of two of real scores, divided once at the end, are a softmax to the base e applied to the values. -/
theorem softmax_mean {ι : Type} [Fintype ι] [Nonempty ι] (s : ι → ℝ) (M : ℝ) (v : ι → EReal) :
    (∑ n, Ideal.exp2 (s n) * v n) * Ideal.div 1 (∑ k, Ideal.exp2 (s k))
      = ∑ n, v n * Ideal.div (Ideal.exp ((s n : EReal) * ((Real.log 2 : ℝ) : EReal) - (M : EReal)))
          (∑ k, Ideal.exp ((s k : EReal) * ((Real.log 2 : ℝ) : EReal) - (M : EReal))) := by
  have p0 : 0 < ∑ k, (2 : ℝ) ^ s k := Finset.sum_pos (fun k _ => Real.rpow_pos_of_pos (by norm_num) _) Finset.univ_nonempty
  have hl : (∑ k, Ideal.exp2 (s k : EReal)) = ((∑ k, (2 : ℝ) ^ s k : ℝ) : EReal) := SoftmaxMath.coe_sum _ _
  simp only [SoftmaxMath.softmax_shift, hl]
  generalize (∑ k, (2 : ℝ) ^ s k) = L at *
  have hd : Ideal.div 1 (L : EReal) = ((L⁻¹ : ℝ) : EReal) := by
    rw [Ideal.div_coe p0.ne', one_mul, one_div]
  rw [hd, SoftmaxMath.sum_mul_coe _ _ (by positivity)]
  refine Finset.sum_congr rfl fun n _ => ?_
  rw [mul_right_comm, mul_comm (v n)]
  refine congrArg (· * v n) ?_
  rw [Ideal.exp2_coe, ← EReal.coe_mul, div_eq_mul_inv]; rfl

end Cert.AttnC

namespace Cert.AttnC.Ref

open Cert.AttnA.Ref (log_two neg_inf hostMax_real)
open Cert Cert.Reference3Ideal Cert.Reference3Ideal.Gen Cert.Reference3Ideal.Read Idealize.ShloMosaic Idealize.ShloMosaic.TcCoe Idealize.SL.Sem

variable (x0 x1 : (⟨S49152x1024, .bf16⟩ : BufTy).Contents (Elt Ideal)) (x2 : (⟨S49152x512, .bf16⟩ : BufTy).Contents (Elt Ideal))

/-- The score of query row `r` and key row `n` of head `h` of sequence `b`, to the base two. -/
def score (b : Fin 12) (h : Fin 8) (r n : Fin 4096) : EReal :=
  ∑ d : Fin 128, x0 (ix2 ⟨b.val * 4096 + r.val, by omega⟩ ⟨h.val * 128 + d.val, by omega⟩)
    * x1 (ix2 ⟨b.val * 4096 + n.val, by omega⟩ ⟨h.val * 128 + d.val, by omega⟩)

/-- The reference's score is that score times the logarithm of two. -/
theorem score_at (b : Fin 12) (h : Fin 8) (r n : Fin 4096) :
    val_main_v9 (F := Ideal) x0 x1 (ix4 b h r n) = score x0 x1 b h r n * ((Real.log 2 : ℝ) : EReal) := by
  pointwise [val_main_v9_apply, val_main_v6_apply, val_main_v8_apply, val_main_v7_apply, val_main_cst, val_main_v1,
    val_main_v0, val_main_v3, val_main_v2, score]
  rw [log_two]

/-- The shift of the reference's softmax is real where the scores are. -/
theorem max_real (hs : ∀ i, ∃ s : ℝ, val_main_v9 (F := Ideal) x0 x1 i = (s : EReal)) (j : S12x8x4096.Idx) :
    ∃ M : ℝ, val_main_v12 (F := Ideal) x0 x1 j = (M : EReal) := by
  rw [val_main_v12_apply, val_main_v11_apply]
  unfold val_main_v10 val_main_cst_1
  obtain ⟨M, hM⟩ := hostMax_real reducesTo_S12x8x4096x4096_S12x8x4096_d3 (by decide) (by decide)
    (val_main_v9 (F := Ideal) x0 x1) (val_main_cst_0 (F := Ideal)) h_S_ neg_inf hs j
  refine ⟨M, ?_⟩
  rw [hM]
  show max (Ideal.ofBits .f32 4286578688#32) (M : EReal) = M
  rw [neg_inf]
  exact max_eq_right bot_le

/-- The softmax at a place, from the scores of its row and the row's shift. -/
theorem p_at (b : Fin 12) (h : Fin 8) (r n : Fin 4096) : val_main_v20 (F := Ideal) x0 x1 (ix4 b h r n)
    = Ideal.div (Ideal.exp (score x0 x1 b h r n * ((Real.log 2 : ℝ) : EReal) - val_main_v12 (F := Ideal) x0 x1 (ix3 b h r)))
        (∑ k, Ideal.exp (score x0 x1 b h r k * ((Real.log 2 : ℝ) : EReal) - val_main_v12 (F := Ideal) x0 x1 (ix3 b h r))) := by
  pointwise [val_main_v13_apply, val_main_v14_apply, val_main_v15_apply, val_main_v16_apply, val_main_v17_apply,
    val_main_v18_apply, val_main_v19_apply, val_main_v20_apply, val_main_cst_2]
  have e1 : idx_main_v13 (idx_main_v14 (ix4 b h r n)) = ix3 b h r := by
    funext a; match a with | ⟨0, _⟩ => rfl | ⟨1, _⟩ => rfl | ⟨2, _⟩ => rfl
  have e2 : ∀ x, idx_main_v17 (idx_main_v18 (idx_main_v19 (ix4 b h r n))) x = ix4 b h r x := by
    intro x; funext a; match a with | ⟨0, _⟩ => rfl | ⟨1, _⟩ => rfl | ⟨2, _⟩ => rfl | ⟨3, _⟩ => rfl
  have e3 : ∀ x, idx_main_v13 (idx_main_v14 (ix4 b h r x)) = ix3 b h r := by
    intro x; funext a; match a with | ⟨0, _⟩ => rfl | ⟨1, _⟩ => rfl | ⟨2, _⟩ => rfl
  simp only [e2, e3, score_at]

/-- The reference's result at a place, from its softmax. -/
theorem res_at (b : Fin 12) (h : Fin 8) (r : Fin 4096) (e : Fin 64) (j : S49152x512.Idx) (hj0 : (j 0 : ℕ) = b * 4096 + r)
    (hj1 : (j 1 : ℕ) = h * 64 + e) : val_main_v24 (F := Ideal) x0 x1 x2 j
    = ∑ n : Fin 4096, x2 (ix2 ⟨b.val * 4096 + n.val, by omega⟩ ⟨h.val * 64 + e.val, by omega⟩)
        * val_main_v20 (F := Ideal) x0 x1 (ix4 b h r n) := by
  have hb := b.isLt; have hh := h.isLt; have hr := r.isLt; have he := e.isLt
  have ej : idx_main_v23 j = ix4 b r h e := by
    funext a
    match a with
    | ⟨0, _⟩ => exact Fin.ext (by show ((j 0).val * 512 + (j 1).val) / 2097152 = b.val; omega)
    | ⟨1, _⟩ => exact Fin.ext (by show ((j 0).val * 512 + (j 1).val) / 512 % 4096 = r.val; omega)
    | ⟨2, _⟩ => exact Fin.ext (by show ((j 0).val * 512 + (j 1).val) / 64 % 8 = h.val; omega)
    | ⟨3, _⟩ => exact Fin.ext (by show ((j 0).val * 512 + (j 1).val) % 64 = e.val; omega)
  pointwise [val_main_v21_apply, val_main_v22_apply, val_main_v23_apply, val_main_v24_apply, ej, val_main_v4, val_main_v5]
  have e1 : ∀ x, ridx_main_v21 (idx_main_v22 (ix4 b r h e)) x = ix4 b h r x := by
    intro x; funext a; match a with | ⟨0, _⟩ => rfl | ⟨1, _⟩ => rfl | ⟨2, _⟩ => rfl | ⟨3, _⟩ => rfl
  simp only [e1]

/-- The reference at a place: over real queries and keys its result is the kernel's form of the same head. -/
theorem ref_at (hq : ∀ i, ∃ r : ℝ, x0 i = (r : EReal)) (hk : ∀ i, ∃ r : ℝ, x1 i = (r : EReal)) (b : Fin 12) (h : Fin 8)
    (r : Fin 4096) (e : Fin 64) (j : S49152x512.Idx) (hj0 : (j 0 : ℕ) = b * 4096 + r) (hj1 : (j 1 : ℕ) = h * 64 + e) :
    val_main_v24 (F := Ideal) x0 x1 x2 j
      = (∑ n : Fin 4096, Ideal.exp2 (score x0 x1 b h r n)
            * x2 (ix2 ⟨b.val * 4096 + n.val, by omega⟩ ⟨h.val * 64 + e.val, by omega⟩))
          * Ideal.div 1 (∑ n, Ideal.exp2 (score x0 x1 b h r n)) := by
  have hs : ∀ b h r n, ∃ s : ℝ, score x0 x1 b h r n = (s : EReal) := fun b h r n =>
    SoftmaxMath.dot_real _ _ (fun d => hq _) (fun d => hk _)
  have hsl : ∀ i, ∃ s : ℝ, val_main_v9 (F := Ideal) x0 x1 i = (s : EReal) := by
    intro i
    obtain ⟨a0, a1, a2, a3, rfl⟩ : ∃ (a0 : Fin 12) (a1 : Fin 8) (a2 a3 : Fin 4096), i = ix4 a0 a1 a2 a3 :=
      ⟨i 0, i 1, i 2, i 3, by
        funext a; match a with | ⟨0, _⟩ => rfl | ⟨1, _⟩ => rfl | ⟨2, _⟩ => rfl | ⟨3, _⟩ => rfl⟩
    obtain ⟨s, e⟩ := hs a0 a1 a2 a3
    exact ⟨s * Real.log 2, by rw [score_at, e, EReal.coe_mul]⟩
  rw [res_at x0 x1 x2 b h r e j hj0 hj1]
  obtain ⟨M, hM⟩ := max_real x0 x1 hsl (ix3 b h r)
  choose s hs' using hs b h r
  simp only [p_at, hM, hs']
  exact (softmax_mean s M _).symm

end Cert.AttnC.Ref

end
-- ==== Proof.AttnCValue.lean ====
module

public import proofs.«01_k».proof.Defs
public import proofs.«01_k».proof.Proof.AttnCKernel
public import proofs.«01_k».proof.Proof.AttnCRef
public import proofs.«01_k».proof.Proof.AttnAClaim
public import proofs.«01_k».proof.Proof.Gen.Pre_finite_qk_c
public import Idealize.ShloMosaic.Lib.Claim

@[expose] public section

/-! The latent attention kernel's result array is the reference's, and the claim that says so. -/

set_option maxRecDepth 16384

noncomputable section

namespace Cert.AttnC

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The reference's result, as a function of the three arguments. -/
abbrev REF (x0 x1 : FVec Ideal S49152x1024 .bf16) (x2 : FVec Ideal S49152x512 .bf16) : FVec Ideal S49152x512 .bf16 :=
  Cert.Reference3Ideal.Read.val_main_v24 (F := Ideal) x0 x1 x2

/-- Where each window's block lies at a grid point. -/
theorem idx : ∀ t : Fin cfg0.N, win0_0.index t = ![t.val / 32 * 16 + t.val % 16, t.val / 16 % 2]
    ∧ win0_1.index t = ![t.val / 32, t.val / 16 % 2] ∧ win0_2.index t = ![t.val / 32, t.val / 16 % 2]
    ∧ win0_3.index t = ![t.val / 32 * 16 + t.val % 16, t.val / 16 % 2] :=
  (by decide +kernel : ∀ t : Fin grid0.N, win0_0.index t = ![t.val / 32 * 16 + t.val % 16, t.val / 16 % 2]
    ∧ win0_1.index t = ![t.val / 32, t.val / 16 % 2] ∧ win0_2.index t = ![t.val / 32, t.val / 16 % 2]
    ∧ win0_3.index t = ![t.val / 32 * 16 + t.val % 16, t.val / 16 % 2])

/-- One head of one block: its slices of the block's queries, keys and values give the reference on its lanes. -/
theorem core (c : Dev nD) (t : Fin cfg0.N)
    (hq : ∀ i, ∃ r : ℝ, m ((c : Thread nD τ).loc main_arg0) i = (r : EReal))
    (hk : ∀ i, ∃ r : ℝ, m ((c : Thread nD τ).loc main_arg1) i = (r : EReal))
    (p u : Fin 2) (x : S256x128.Idx) (j : S49152x512.Idx)
    (hj0 : (j 0 : ℕ) = (t.val / 32 * 16 + t.val % 16) * 256 + x 0)
    (hj1 : (j 1 : ℕ) = t.val / 16 % 2 * 256 + p * 128 + x 1) (hu : (x 1 : ℕ) / 64 = u)
    (q : FVec Ideal S256x128 .bf16) (k v : FVec Ideal S4096x128 .bf16)
    (eq : ∀ (a : Fin 256) (d : Fin 128), q (ix2 a d) = m ((c : Thread nD τ).loc main_arg0) (ix2 ⟨(t.val / 32 * 16 + t.val % 16) * 256 + a.val, by have := t.isLt; have : cfg0.N = 384 := rfl; omega⟩ ⟨t.val / 16 % 2 * 512 + (p.val * 2 + u.val) * 128 + d.val, by omega⟩))
    (ek : ∀ (a : Fin 4096) (d : Fin 128), k (ix2 a d) = m ((c : Thread nD τ).loc main_arg1) (ix2 ⟨t.val / 32 * 4096 + a.val, by have := t.isLt; have : cfg0.N = 384 := rfl; omega⟩ ⟨t.val / 16 % 2 * 512 + (p.val * 2 + u.val) * 128 + d.val, by omega⟩))
    (ev : ∀ (a : Fin 4096) (d : Fin 128), v (ix2 a d) = m ((c : Thread nD τ).loc main_arg2) (ix2 ⟨t.val / 32 * 4096 + a.val, by have := t.isLt; have : cfg0.N = 384 := rfl; omega⟩ ⟨t.val / 16 % 2 * 256 + p.val * 128 + d.val, by omega⟩)) :
    head q k v x = REF (m ((c : Thread nD τ).loc main_arg0)) (m ((c : Thread nD τ).loc main_arg1))
      (m ((c : Thread nD τ).loc main_arg2)) j := by
  have ht : t.val < 384 := t.isLt
  obtain ⟨r, l, rfl⟩ : ∃ (r : Fin 256) (l : Fin 128), x = ix2 r l := ⟨x 0, x 1, by
    funext a; match a with | ⟨0, _⟩ => rfl | ⟨1, _⟩ => rfl⟩
  have hr := r.isLt; have hl := l.isLt; have hp := p.isLt; have hu' := u.isLt
  have hu : l.val / 64 = u.val := hu
  have hj0 : (j 0 : ℕ) = (t.val / 32 * 16 + t.val % 16) * 256 + r.val := hj0
  have hj1 : (j 1 : ℕ) = t.val / 16 % 2 * 256 + p.val * 128 + l.val := hj1
  rw [REF, Ref.ref_at _ _ _ hq hk ⟨t.val / 32, by omega⟩ ⟨t.val / 16 % 2 * 4 + p.val * 2 + u.val, by omega⟩
    ⟨t.val % 16 * 256 + r.val, by omega⟩ ⟨l.val % 64, by omega⟩ j
    (by rw [hj0]; show _ = t.val / 32 * 4096 + (t.val % 16 * 256 + r.val); omega)
    (by rw [hj1]; show _ = (t.val / 16 % 2 * 4 + p.val * 2 + u.val) * 64 + l.val % 64; omega)]
  rw [head_at q k v _ (Ref.score (m ((c : Thread nD τ).loc main_arg0)) (m ((c : Thread nD τ).loc main_arg1)) ⟨t.val / 32, by omega⟩
    ⟨t.val / 16 % 2 * 4 + p.val * 2 + u.val, by omega⟩ ⟨t.val % 16 * 256 + r.val, by omega⟩)]
  · refine congrArg (· * _) (Finset.sum_congr rfl fun n _ => congrArg₂ (· * ·) rfl ?_)
    refine (ev n l).trans ?_
    blk_ext
  · intro n
    refine Finset.sum_congr rfl fun d _ => congrArg₂ (· * ·) ?_ ?_
    · refine Eq.trans ?_ (eq r d).symm
      blk_ext
    · refine Eq.trans ?_ (ek n d).symm
      blk_ext

/-- What a grid point leaves in its block, at a place of the block. -/
theorem point (c : Dev nD) (t : Fin cfg0.N)
    (hq : ∀ i, ∃ r : ℝ, m ((c : Thread nD τ).loc main_arg0) i = (r : EReal))
    (hk : ∀ i, ∃ r : ℝ, m ((c : Thread nD τ).loc main_arg1) i = (r : EReal)) (y : S256x256.Idx) (j : S49152x512.Idx)
    (hj0 : (j 0 : ℕ) = (t.val / 32 * 16 + t.val % 16) * 256 + y 0) (hj1 : (j 1 : ℕ) = t.val / 16 % 2 * 256 + y 1) :
    out0_3 (iblk m c 0 t) (iblk m c 1 t) (iblk m c 2 t) y
      = REF (m ((c : Thread nD τ).loc main_arg0)) (m ((c : Thread nD τ).loc main_arg1)) (m ((c : Thread nD τ).loc main_arg2)) j := by
  canon_tiles x h
  case piece0 =>
    have hx1 : (x 1 : ℕ) < 128 := (x 1).isLt
    refine (pick1_at (head (View.ld (iblk m c 0 t) r0_5) (View.ld (iblk m c 1 t) r0_6) (View.ld (iblk m c 2 t) r0_7))
      (head (View.ld (iblk m c 0 t) r0_8) (View.ld (iblk m c 1 t) r0_9) (View.ld (iblk m c 2 t) r0_7)) x).trans ?_
    split
    · refine core m c t hq hk 1 0 x j ?_ ?_ ?_ _ _ _ ?_ ?_ ?_
      · omega
      · simp only [Fin.isValue]; omega
      · simp only [Fin.isValue]; omega
      · intro a d; pointwise; blk_point [iblk, V, idx t]
      · intro a d; pointwise; blk_point [iblk, V, idx t]
      · intro a d; pointwise; blk_point [iblk, V, idx t]
    · refine core m c t hq hk 1 1 x j ?_ ?_ ?_ _ _ _ ?_ ?_ ?_
      · omega
      · simp only [Fin.isValue]; omega
      · simp only [Fin.isValue]; omega
      · intro a d; pointwise; blk_point [iblk, V, idx t]
      · intro a d; pointwise; blk_point [iblk, V, idx t]
      · intro a d; pointwise; blk_point [iblk, V, idx t]
  case piece1 =>
    have hx1 : (x 1 : ℕ) < 128 := (x 1).isLt
    refine (pick0_at (head (View.ld (iblk m c 0 t) r0_0) (View.ld (iblk m c 1 t) r0_1) (View.ld (iblk m c 2 t) r0_2))
      (head (View.ld (iblk m c 0 t) r0_3) (View.ld (iblk m c 1 t) r0_4) (View.ld (iblk m c 2 t) r0_2)) x).trans ?_
    split
    · refine core m c t hq hk 0 0 x j ?_ ?_ ?_ _ _ _ ?_ ?_ ?_
      · omega
      · simp only [Fin.isValue]; omega
      · simp only [Fin.isValue]; omega
      · intro a d; pointwise; blk_point [iblk, V, idx t]
      · intro a d; pointwise; blk_point [iblk, V, idx t]
      · intro a d; pointwise; blk_point [iblk, V, idx t]
    · refine core m c t hq hk 0 1 x j ?_ ?_ ?_ _ _ _ ?_ ?_ ?_
      · omega
      · simp only [Fin.isValue]; omega
      · simp only [Fin.isValue]; omega
      · intro a d; pointwise; blk_point [iblk, V, idx t]
      · intro a d; pointwise; blk_point [iblk, V, idx t]
      · intro a d; pointwise; blk_point [iblk, V, idx t]

/-- The output blocks cover the array. -/
theorem final (c : Dev nD) (hq : ∀ i, ∃ r : ℝ, m ((c : Thread nD τ).loc main_arg0) i = (r : EReal))
    (hk : ∀ i, ∃ r : ℝ, m ((c : Thread nD τ).loc main_arg1) i = (r : EReal)) :
    (dats m 0 c).arrAt 3 (cfgs 0).N = REF (m ((c : Thread nD τ).loc main_arg0)) (m ((c : Thread nD τ).loc main_arg1))
      (m ((c : Thread nD τ).loc main_arg2)) := by
  refine (dats m 0 c).arrAt_eq_of_covers 3 _ (by decide +kernel) fun t _ y => ?_
  rw [after0_3]
  have hp := point m c t hq hk y
  generalize REF (m ((c : Thread nD τ).loc main_arg0)) (m ((c : Thread nD τ).loc main_arg1))
    (m ((c : Thread nD τ).loc main_arg2)) = R at hp ⊢
  generalize out0_3 (iblk m c 0 t) (iblk m c 1 t) (iblk m c 2 t) = o at hp ⊢
  refine hp _ ?_ ?_
  · blk_simp [idx t] <;> try omega
  · blk_simp [idx t] <;> try omega

/-- The precondition says that every query and every key is real. -/
theorem real_of_pre (x0 x1 : FVec Ideal ⟨2, ![49152, 1024]⟩ .bf16) (x2 : FVec Ideal ⟨2, ![49152, 512]⟩ .bf16)
    (h : Cert.Pre_finite_qk_c.fn (F := Ideal) x0 x1 x2 = fun _ => 1#1) (i : (⟨2, ![49152, 1024]⟩ : Shape).Idx) :
    (∃ r : ℝ, x0 i = (r : EReal)) ∧ ∃ r : ℝ, x1 i = (r : EReal) := by
  have h' := congrFun h i
  revert h'
  pointwise [Cert.Pre_finite_qk_c.fn]
  have htop : Ideal.ofBits .f32 2139095040#32 = ⊤ := by simp [Ideal.ofBits, Ideal.ieee]
  rw [htop]
  intro hand
  have hx : ∀ p q : Bool, IntOp.andi (BitVec.ofBool p) (BitVec.ofBool q) = 1#1 → p = true ∧ q = true := by decide
  obtain ⟨ha, hb⟩ := hx _ _ hand
  exact ⟨AttnA.real_of_abs_lt _ (of_decide_eq_true ha), AttnA.real_of_abs_lt _ (of_decide_eq_true hb)⟩

/-- At the ideal values the kernel computes the reference, over finite queries and keys. -/
theorem algebraic : Cert.algebraic_Kernel3Ideal_Reference3Ideal_pre_finite_qk_c := by
  pair_intro
  · run_from Cert.Kernel3Ideal.Gen.run_main m g
  · run_from Cert.Reference3Ideal.Value.run m' g'
    obtain ⟨e0, e1, e2⟩ := hagree c
    rw [Cert.Reference3Ideal.Read.val_main_v24_eq]
    exact (final m c (fun i => (real_of_pre _ _ _ (hpre c) i).1) (fun i => (real_of_pre _ _ _ (hpre c) i).2)).symm

end Cert.AttnC

end
-- ==== Proof.MergeMath.lean ====
module

public import proofs.«01_k».proof.Proof.FfnMath

@[expose] public section

/-! The merge of the four attention branches of one row, as a function of the row, the branches and the weights. -/

noncomputable section

namespace Cert.MergeMath

open Idealize.ShloMosaic
open Cert.FfnMath

/-- The shift of a softmax over three groups: the greatest of the three values. -/
def top (l0 l1 l2 : EReal) : EReal := max (max l0 l1) l2

/-- The denominator of a softmax over three groups. -/
def den (l0 l1 l2 : EReal) : EReal :=
  Ideal.exp (l0 - top l0 l1 l2) + Ideal.exp (l1 - top l0 l1 l2) + Ideal.exp (l2 - top l0 l1 l2)

/-- Three values weighted by the softmax of three others. -/
def mix (l0 l1 l2 o0 o1 o2 : EReal) : EReal :=
  Ideal.div (Ideal.exp (l0 - top l0 l1 l2)) (den l0 l1 l2) * o0 + Ideal.div (Ideal.exp (l1 - top l0 l1 l2)) (den l0 l1 l2) * o1
    + Ideal.div (Ideal.exp (l2 - top l0 l1 l2)) (den l0 l1 l2) * o2

/-- One branch: its projection, times the logistic function of its gate. -/
def branch {n : ℕ} (h wg : Fin 1024 → EReal) (o w : Fin n → EReal) : EReal :=
  gateOf (∑ d, h d * wg d) * ∑ e, o e * w e

/-- The four gated branches of one channel, added. -/
def merged (h : Fin 1024 → EReal) (wg : Fin 1024 → Fin 4096 → EReal) (oa : Fin 512 → EReal) (ob : Fin 256 → EReal) (oc od : Fin 512 → EReal)
    (wa : Fin 512 → Fin 1024 → EReal) (wb : Fin 256 → Fin 1024 → EReal) (wc wd : Fin 512 → Fin 1024 → EReal) (k : Fin 1024) : EReal :=
  branch h (fun d => wg d ⟨k.val, by omega⟩) oa (wa · k) + branch h (fun d => wg d ⟨1024 + k.val, by omega⟩) ob (wb · k)
    + branch h (fun d => wg d ⟨2048 + k.val, by omega⟩) oc (wc · k) + branch h (fun d => wg d ⟨3072 + k.val, by omega⟩) od (wd · k)

/-- One output channel: the row's own value and the weighted sum of the merged channels. -/
def merge (x g : Fin 1024 → EReal) (wg : Fin 1024 → Fin 4096 → EReal) (oa : Fin 512 → EReal) (ob : Fin 256 → EReal) (oc od : Fin 512 → EReal)
    (wa : Fin 512 → Fin 1024 → EReal) (wb : Fin 256 → Fin 1024 → EReal) (wc wd : Fin 512 → Fin 1024 → EReal) (wo : Fin 1024 → EReal)
    (c : Fin 1024) : EReal :=
  x c + ∑ k, merged (normRow x g) wg oa ob oc od wa wb wc wd k * wo k

end Cert.MergeMath

end
-- ==== Proof.MergeKernel.lean ====
module

public import proofs.«01_k».proof.Proof.Gen.Kernel4Ideal.Value
public import proofs.«01_k».proof.Proof.MergeMath
public import Idealize.ShloMosaic.Lib.Pipeline.ReadBack

@[expose] public section

/-! The merge kernel's block at a grid point, at a place of the block. -/

set_option maxRecDepth 16384

noncomputable section

namespace Cert.Merge

open Cert.Kernel4Ideal Cert.Kernel4Ideal.Gen Idealize.ShloMosaic Idealize.ShloMosaic.TcCoe Idealize.SL.Sem
open Idealize.ShloMosaic.Pipeline (Dat)
open Cert.FfnMath Cert.MergeMath

/-- A load off a buffer whose stores are all blocks of one function and cover it reads that function. -/
theorem readCov_of_pieces {sig : RefSig} {κ : Kind} {sp : Space} {s : Shape} {e : EltTy} (v : View sig κ sp s e)
    (L : List (View.Piece (Elt Ideal) s e)) (r : Rect s) (G : s.Idx → Elt Ideal e) (h : View.PiecesOf G L)
    (hc : ∀ y : s.Idx, ∃ p ∈ L, y ∈ p.1.set) : v.readCov L r.toLoadRect = View.ld G r := by
  rw [View.readCov_eq_canon']
  funext j
  have hp := View.canon_append_of_piecesOf G [] L h (r.toLoadRect.idx j) (hc _)
  rw [List.append_nil] at hp
  exact hp

/-- A block whose positions are sorted by their residue modulo four, put back in order, in two chunks of lanes. -/
def back4 (B : FVec Ideal S1x4x128x256 .f32) : FVec Ideal S2x512x128 .f32 := fun i =>
  B (ix4 0 ⟨(i 1 : ℕ) % 4, by omega⟩ ⟨(i 1 : ℕ) / 4, by have := (i 1).isLt; simp at this; omega⟩
    ⟨(i 0 : ℕ) * 128 + i 2, by have := (i 0).isLt; have := (i 2).isLt; simp at *; omega⟩)

/-- A block whose positions are sorted by their residue modulo sixteen, put back in order, in two chunks of lanes. -/
def back16 (B : FVec Ideal S1x16x32x256 .f32) : FVec Ideal S2x512x128 .f32 := fun i =>
  B (ix4 0 ⟨(i 1 : ℕ) % 16, by omega⟩ ⟨(i 1 : ℕ) / 16, by have := (i 1).isLt; simp at this; omega⟩
    ⟨(i 0 : ℕ) * 128 + i 2, by have := (i 0).isLt; have := (i 2).isLt; simp at *; omega⟩)

/-- A residue's rows of one chunk of lanes, as the kernel stores them. -/
theorem cast4 (x : FVec Ideal S1x1x128x128 .f32) (h1 : Shape.ShapeCasts S1x1x128x128 S128x128) (h2 : Shape.ShapeCasts S128x128 S1x128x128)
    (j : S1x128x128.Idx) : shapeCast S1x128x128 (shapeCast S128x128 x h1) h2 j = x (ix4 0 0 (j 1) (j 2)) := by
  have j0 : (j 0).val < 1 := (j 0).isLt
  let a : Fin 128 := j 1
  let b : Fin 128 := j 2
  refine (shapeCast_apply _ _ j (ix2 a b) ?_).trans (shapeCast_apply _ _ _ (ix4 0 0 a b) ?_)
  · rw [Shape.rowMajor_val_two, Shape.rowMajor_val_three]
    show (j 1).val * 128 + (j 2).val = ((j 0).val * 128 + (j 1).val) * 128 + (j 2).val
    omega
  · rw [Shape.rowMajor_val_two, Shape.rowMajor_val_four]
    show ((0 * 1 + 0) * 128 + (j 1).val) * 128 + (j 2).val = (j 1).val * 128 + (j 2).val
    omega

/-- A residue's rows of one chunk of lanes, as the kernel stores them. -/
theorem cast16 (x : FVec Ideal S1x1x32x128 .f32) (h1 : Shape.ShapeCasts S1x1x32x128 S32x128) (h2 : Shape.ShapeCasts S32x128 S1x32x128)
    (j : S1x32x128.Idx) : shapeCast S1x32x128 (shapeCast S32x128 x h1) h2 j = x (ix4 0 0 (j 1) (j 2)) := by
  have j0 : (j 0).val < 1 := (j 0).isLt
  let a : Fin 32 := j 1
  let b : Fin 128 := j 2
  refine (shapeCast_apply _ _ j (ix2 a b) ?_).trans (shapeCast_apply _ _ _ (ix4 0 0 a b) ?_)
  · rw [Shape.rowMajor_val_two, Shape.rowMajor_val_three]
    show (j 1).val * 128 + (j 2).val = ((j 0).val * 32 + (j 1).val) * 128 + (j 2).val
    omega
  · rw [Shape.rowMajor_val_two, Shape.rowMajor_val_four]
    show ((0 * 1 + 0) * 32 + (j 1).val) * 128 + (j 2).val = (j 1).val * 128 + (j 2).val
    omega

/-- One strided store of a residue's rows is a block of the array put back in order. -/
theorem piece4 (B : FVec Ideal S1x4x128x256 .f32) (c r l : ℕ) (hr : r < 4) (hl : l = c * 128)
    (inb : ∀ a, (![0, r, 0, l] : Fin 4 → ℕ) a + S1x1x128x128.size a ≤ S1x4x128x256.size a)
    (inb' : ∀ a, S1x128x128.size a = 0 ∨ (![c, r, 0] : Fin 3 → ℕ) a + (![1, 4, 1] : Fin 3 → ℕ) a * (S1x128x128.size a - 1) < S2x512x128.size a)
    (sp : ∀ a, 0 < (![1, 4, 1] : Fin 3 → ℕ) a) (h1 : Shape.ShapeCasts S1x1x128x128 S128x128) (h2 : Shape.ShapeCasts S128x128 S1x128x128) (x : S1x128x128.Idx) :
    shapeCast S1x128x128 (shapeCast S128x128 (View.ld (Val := Elt Ideal) (e' := .f32) B (Rect.unit (s := S1x4x128x256) ![0, r, 0, l] S1x1x128x128.size inb)) h1) h2 x
      = back4 B ((⟨⟨![c, r, 0], S1x128x128.size, ![1, 4, 1], inb'⟩, sp⟩ : Rect S2x512x128).emb x) := by
  have j0 : (x 0).val < 1 := (x 0).isLt
  rw [cast4]
  unfold back4
  refine congrArg B ?_
  funext a
  match a with
  | ⟨0, _⟩ => rfl
  | ⟨1, _⟩ => exact Fin.ext (by show r + 1 * 0 = (r + 4 * (x 1).val) % 4; omega)
  | ⟨2, _⟩ => exact Fin.ext (by show 0 + 1 * (x 1).val = (r + 4 * (x 1).val) / 4; omega)
  | ⟨3, _⟩ => exact Fin.ext (by show l + 1 * (x 2).val = (c + 1 * (x 0).val) * 128 + (0 + 1 * (x 2).val); omega)

/-- One strided store of a residue's rows is a block of the array put back in order. -/
theorem piece16 (B : FVec Ideal S1x16x32x256 .f32) (c r l : ℕ) (hr : r < 16) (hl : l = c * 128)
    (inb : ∀ a, (![0, r, 0, l] : Fin 4 → ℕ) a + S1x1x32x128.size a ≤ S1x16x32x256.size a)
    (inb' : ∀ a, S1x32x128.size a = 0 ∨ (![c, r, 0] : Fin 3 → ℕ) a + (![1, 16, 1] : Fin 3 → ℕ) a * (S1x32x128.size a - 1) < S2x512x128.size a)
    (sp : ∀ a, 0 < (![1, 16, 1] : Fin 3 → ℕ) a) (h1 : Shape.ShapeCasts S1x1x32x128 S32x128) (h2 : Shape.ShapeCasts S32x128 S1x32x128) (x : S1x32x128.Idx) :
    shapeCast S1x32x128 (shapeCast S32x128 (View.ld (Val := Elt Ideal) (e' := .f32) B (Rect.unit (s := S1x16x32x256) ![0, r, 0, l] S1x1x32x128.size inb)) h1) h2 x
      = back16 B ((⟨⟨![c, r, 0], S1x32x128.size, ![1, 16, 1], inb'⟩, sp⟩ : Rect S2x512x128).emb x) := by
  have j0 : (x 0).val < 1 := (x 0).isLt
  rw [cast16]
  unfold back16
  refine congrArg B ?_
  funext a
  match a with
  | ⟨0, _⟩ => rfl
  | ⟨1, _⟩ => exact Fin.ext (by show r + 1 * 0 = (r + 16 * (x 1).val) % 16; omega)
  | ⟨2, _⟩ => exact Fin.ext (by show 0 + 1 * (x 1).val = (r + 16 * (x 1).val) / 16; omega)
  | ⟨3, _⟩ => exact Fin.ext (by show l + 1 * (x 2).val = (c + 1 * (x 0).val) * 128 + (0 + 1 * (x 2).val); omega)

/-- Whether a list of stores holds, for each chunk of lanes and each residue, the rows of that residue. -/
def hits (d n : ℕ) (L : List (View.Piece (Elt Ideal) S2x512x128 .f32)) : Bool :=
  (List.range 2).all fun c => (List.range d).all fun r => L.any fun p =>
    (p.1.off 0 == c) && (p.1.off 1 == r) && (p.1.off 2 == 0) && (p.1.size 0 == 1) && (p.1.size 1 == n) && (p.1.size 2 == 128)
      && (p.1.stride 0 == 1) && (p.1.stride 1 == d) && (p.1.stride 2 == 1)

/-- Stores of all residues in all chunks cover the buffer. -/
theorem covers (d n : ℕ) (hd : 0 < d) (hn : 512 = d * n) (L : List (View.Piece (Elt Ideal) S2x512x128 .f32)) (h : hits d n L = true) (y : S2x512x128.Idx) :
    ∃ p ∈ L, y ∈ p.1.set := by
  have y0 : (y 0).val < 2 := (y 0).isLt
  have y1 : (y 1).val < 512 := (y 1).isLt
  have y2 : (y 2).val < 128 := (y 2).isLt
  unfold hits at h
  rw [List.all_eq_true] at h
  have h' := h (y 0).val (List.mem_range.mpr y0)
  rw [List.all_eq_true] at h'
  have h'' := h' ((y 1).val % d) (List.mem_range.mpr (Nat.mod_lt _ hd))
  rw [List.any_eq_true] at h''
  obtain ⟨p, hp, hb⟩ := h''
  simp only [Bool.and_eq_true, beq_iff_eq] at hb
  obtain ⟨⟨⟨⟨⟨⟨⟨⟨o0, o1⟩, o2⟩, s0⟩, s1⟩, s2⟩, t0⟩, t1⟩, t2⟩ := hb
  refine ⟨p, hp, ?_⟩
  rw [LoadRect.mem_set]
  intro a
  match a with
  | ⟨0, _⟩ => exact ⟨0, by have : p.1.size ⟨0, by decide⟩ = 1 := s0; omega, by
      have e : p.1.off ⟨0, by decide⟩ = (y 0).val := o0
      show (y 0).val = _
      omega⟩
  | ⟨1, _⟩ => exact ⟨(y 1).val / d, by
      have : p.1.size ⟨1, by decide⟩ = n := s1
      rw [this]
      exact Nat.div_lt_of_lt_mul (hn ▸ y1), by
      have e : p.1.off ⟨1, by decide⟩ = (y 1).val % d := o1
      have f : p.1.stride ⟨1, by decide⟩ = d := t1
      rw [e, f]
      exact (Nat.mod_add_div _ _).symm⟩
  | ⟨2, _⟩ => exact ⟨(y 2).val, by have : p.1.size ⟨2, by decide⟩ = 128 := s2; omega, by
      have e : p.1.off ⟨2, by decide⟩ = 0 := o2
      have f : p.1.stride ⟨2, by decide⟩ = 1 := t2
      rw [e, f]
      show (y 2).val = _
      omega⟩

/-- Two chunks of lanes side by side. -/
def lanes (a b : FVec Ideal S1x512x128 .f32) : FVec Ideal S512x256 .f32 := fun j =>
  if h : (j 1).val < 128 then a (ix3 0 (j 0) ⟨(j 1).val, h⟩) else b (ix3 0 (j 0) ⟨(j 1).val - 128, by have : (j 1).val < 256 := (j 1).isLt; omega⟩)

/-- The kernel's joining of two chunks of lanes. -/
theorem cat_at (a b : FVec Ideal S1x512x128 .f32) : k0_pay12 (F := Ideal) a b = lanes a b := by
  funext j
  pointwise [k0_pay12, lanes]

/-- The kernel's other joining of two chunks of lanes. -/
theorem cat_at' (a b : FVec Ideal S1x512x128 .f32) : k0_pay48 (F := Ideal) a b = lanes a b := by
  funext j
  pointwise [k0_pay48, lanes]

/-- The second group's weighted values, added. -/
theorem second_at (v w : FVec Ideal S512x256 .f32) (a b : FVec Ideal S1x512x128 .f32) (j : S512x256.Idx) :
    k0_pay65 (F := Ideal) v w a b j = v j + w j * lanes a b j := by
  pointwise [k0_pay65, lanes]

/-- The third group's weighted values, added. -/
theorem third_at (v w : FVec Ideal S512x256 .f32) (a b : FVec Ideal S1x512x128 .f32) (j : S512x256.Idx) :
    k0_pay101 (F := Ideal) v w a b j = v j + w j * lanes a b j := by
  pointwise [k0_pay101, lanes]

/-- The three groups' weighted sum. -/
theorem mix_at (l0 o0 : FVec Ideal S512x256 .f32) (a b c d e f g h : FVec Ideal S1x512x128 .f32) (j : S512x256.Idx) :
    k0_pay101 (F := Ideal) (k0_pay65 (k0_pay54 l0 (k0_pay12 a b) c d o0) (k0_pay55 l0 (k0_pay12 a b) c d) e f)
      (k0_pay66 (k0_pay52 l0 (k0_pay12 a b) c d) (k0_pay53 l0 (k0_pay12 a b) c d)) g h j
      = mix (l0 j) (lanes a b j) (lanes c d j) (o0 j) (lanes e f j) (lanes g h j) := by
  rw [third_at, second_at]
  simp only [cat_at, k0_pay54, k0_pay55, k0_pay66, k0_pay52, k0_pay53, k0_pay50, k0_pay51, k0_pay49, cat_at']
  rfl

/-- The two chunks of lanes of an array put back in order, at a place. -/
theorem lanes4 (B : FVec Ideal S1x4x128x256 .f32) (inb0 inb1) (j : S512x256.Idx) :
    lanes (View.ld (Val := Elt Ideal) (e' := .f32) (back4 B) (Rect.unit (s := S2x512x128) ![0, 0, 0] ![1, 512, 128] inb0))
        (View.ld (Val := Elt Ideal) (e' := .f32) (back4 B) (Rect.unit (s := S2x512x128) ![1, 0, 0] ![1, 512, 128] inb1)) j
      = B (ix4 0 ⟨(j 0).val % 4, by omega⟩ ⟨(j 0).val / 4, by have : (j 0).val < 512 := (j 0).isLt; omega⟩ (j 1)) := by
  unfold lanes
  split
  · refine congrArg B ?_
    funext a
    match a with
    | ⟨0, _⟩ => rfl
    | ⟨1, _⟩ => exact Fin.ext (by show (0 + 1 * (j 0).val) % 4 = (j 0).val % 4; omega)
    | ⟨2, _⟩ => exact Fin.ext (by show (0 + 1 * (j 0).val) / 4 = (j 0).val / 4; omega)
    | ⟨3, _⟩ => exact Fin.ext (by show (0 + 1 * 0) * 128 + (0 + 1 * (j 1).val) = (j 1).val; omega)
  · refine congrArg B ?_
    funext a
    match a with
    | ⟨0, _⟩ => rfl
    | ⟨1, _⟩ => exact Fin.ext (by show (0 + 1 * (j 0).val) % 4 = (j 0).val % 4; omega)
    | ⟨2, _⟩ => exact Fin.ext (by show (0 + 1 * (j 0).val) / 4 = (j 0).val / 4; omega)
    | ⟨3, _⟩ => exact Fin.ext (by show (1 + 1 * 0) * 128 + (0 + 1 * ((j 1).val - 128)) = (j 1).val; omega)

/-- The two chunks of lanes of an array put back in order, at a place. -/
theorem lanes16 (B : FVec Ideal S1x16x32x256 .f32) (inb0 inb1) (j : S512x256.Idx) :
    lanes (View.ld (Val := Elt Ideal) (e' := .f32) (back16 B) (Rect.unit (s := S2x512x128) ![0, 0, 0] ![1, 512, 128] inb0))
        (View.ld (Val := Elt Ideal) (e' := .f32) (back16 B) (Rect.unit (s := S2x512x128) ![1, 0, 0] ![1, 512, 128] inb1)) j
      = B (ix4 0 ⟨(j 0).val % 16, by omega⟩ ⟨(j 0).val / 16, by have : (j 0).val < 512 := (j 0).isLt; omega⟩ (j 1)) := by
  unfold lanes
  split
  · refine congrArg B ?_
    funext a
    match a with
    | ⟨0, _⟩ => rfl
    | ⟨1, _⟩ => exact Fin.ext (by show (0 + 1 * (j 0).val) % 16 = (j 0).val % 16; omega)
    | ⟨2, _⟩ => exact Fin.ext (by show (0 + 1 * (j 0).val) / 16 = (j 0).val / 16; omega)
    | ⟨3, _⟩ => exact Fin.ext (by show (0 + 1 * 0) * 128 + (0 + 1 * (j 1).val) = (j 1).val; omega)
  · refine congrArg B ?_
    funext a
    match a with
    | ⟨0, _⟩ => rfl
    | ⟨1, _⟩ => exact Fin.ext (by show (0 + 1 * (j 0).val) % 16 = (j 0).val % 16; omega)
    | ⟨2, _⟩ => exact Fin.ext (by show (0 + 1 * (j 0).val) / 16 = (j 0).val / 16; omega)
    | ⟨3, _⟩ => exact Fin.ext (by show (1 + 1 * 0) * 128 + (0 + 1 * ((j 1).val - 128)) = (j 1).val; omega)

/-- The normalised row. -/
theorem norm_at (x : FVec Ideal S512x1024 .f32) (g : FVec Ideal S1x1024 .f32) (j : S512x1024.Idx) :
    k0_pay2 (F := Ideal) x g j = normRow (fun d => x (ix2 (j 0) d)) (fun d => g (ix2 0 d)) (j 1) := by
  pointwise [k0_pay2, normRow]

/-- The first two branches. -/
theorem branches_at (h : FVec Ideal S512x1024 .bf16) (ob : FVec Ideal S512x256 .bf16) (oa : FVec Ideal S512x512 .bf16)
    (wg0 : FVec Ideal S1x1024x1024 .bf16) (wa : FVec Ideal S1x512x1024 .bf16) (wg1 : FVec Ideal S1x1024x1024 .bf16) (wb : FVec Ideal S1x256x1024 .bf16)
    (j : S512x1024.Idx) : k0_pay102 (F := Ideal) h ob oa wg0 wa wg1 wb j
      = branch (fun d => h (ix2 (j 0) d)) (fun d => wg0 (ix3 0 d (j 1))) (fun e => oa (ix2 (j 0) e)) (fun e => wa (ix3 0 e (j 1)))
        + branch (fun d => h (ix2 (j 0) d)) (fun d => wg1 (ix3 0 d (j 1))) (fun e => ob (ix2 (j 0) e)) (fun e => wb (ix3 0 e (j 1))) := by
  pointwise [k0_pay102, branch, gateOf, zero_sub]

/-- The third branch, added. -/
theorem branch_at (h : FVec Ideal S512x1024 .bf16) (v : FVec Ideal S512x1024 .f32) (oc : FVec Ideal S512x512 .bf16)
    (wg : FVec Ideal S1x1024x1024 .bf16) (wc : FVec Ideal S1x512x1024 .bf16) (j : S512x1024.Idx) :
    k0_pay104 (F := Ideal) oc v (k0_pay103 h wg) wc j
      = v j + branch (fun d => h (ix2 (j 0) d)) (fun d => wg (ix3 0 d (j 1))) (fun e => oc (ix2 (j 0) e)) (fun e => wc (ix3 0 e (j 1))) := by
  pointwise [k0_pay104, k0_pay103, branch, gateOf, zero_sub]

/-- The fourth branch, added, and the sum projected and added to the row. -/
theorem last_at (x : FVec Ideal S512x1024 .f32) (h : FVec Ideal S512x1024 .bf16) (v : FVec Ideal S512x1024 .f32) (od : FVec Ideal S512x512 .bf16)
    (wg : FVec Ideal S1x1024x1024 .bf16) (wd : FVec Ideal S1x512x1024 .bf16) (wo : FVec Ideal S1x1024x1024 .bf16) (j : S512x1024.Idx) :
    k0_pay1 (F := Ideal) x od v (k0_pay105 h wg) wd wo j
      = x j + ∑ k : Fin 1024, (v (ix2 (j 0) k) + branch (fun d => h (ix2 (j 0) d)) (fun d => wg (ix3 0 d k)) (fun e => od (ix2 (j 0) e))
          (fun e => wd (ix3 0 e k))) * wo (ix3 0 k (j 1)) := by
  pointwise [k0_pay1, k0_pay105, branch, gateOf, zero_sub]

end Cert.Merge

end
-- ==== Proof.MergeBlock.lean ====
module

public import proofs.«01_k».proof.Proof.MergeKernel
public import Idealize.ShloMosaic.Lib.Pipeline.ValueKit
public import Idealize.ShloMosaic.Lib.Pipeline.ReadBack

@[expose] public section

/-! What a grid point of the merge kernel leaves in its block: the merge of each row. -/

set_option maxRecDepth 16384

noncomputable section

namespace Cert.Merge

open Cert.Kernel4Ideal Cert.Kernel4Ideal.Gen Idealize.ShloMosaic Idealize.ShloMosaic.TcCoe Idealize.SL.Sem
open Idealize.ShloMosaic.Pipeline (Dat)
open Cert.FfnMath Cert.MergeMath

variable (m : (ℓ : Loc nD τ sig) → Buf (Elt Ideal) ℓ)

/-- The position of a block's row in a block sorted by residues modulo four. -/
abbrev row4 (B : FVec Ideal S1x4x128x256 .f32) (r : Fin 512) (e : Fin 256) : EReal :=
  B (ix4 0 ⟨r.val % 4, by omega⟩ ⟨r.val / 4, by omega⟩ e)

/-- The position of a block's row in a block sorted by residues modulo sixteen. -/
abbrev row16 (B : FVec Ideal S1x16x32x256 .f32) (r : Fin 512) (e : Fin 256) : EReal :=
  B (ix4 0 ⟨r.val % 16, by omega⟩ ⟨r.val / 16, by omega⟩ e)

/-- The kernel's expression for its block, at a place. -/
theorem chain_at (x : FVec Ideal S512x1024 .f32) (g : FVec Ideal S1x1024 .f32) (wg : FVec Ideal S1x1024x4096 .bf16)
    (oa : FVec Ideal S512x512 .bf16) (o0 : FVec Ideal S512x256 .f32) (o1 : FVec Ideal S1x4x128x256 .f32) (o2 : FVec Ideal S1x16x32x256 .f32)
    (l0 : FVec Ideal S512x256 .f32) (l1 : FVec Ideal S1x4x128x256 .f32) (l2 : FVec Ideal S1x16x32x256 .f32) (oc od : FVec Ideal S512x512 .bf16)
    (wa : FVec Ideal S1x512x1024 .bf16) (wb : FVec Ideal S1x256x1024 .bf16) (wc wd : FVec Ideal S1x512x1024 .bf16) (wo : FVec Ideal S1x1024x1024 .bf16)
    (y : S512x1024.Idx) (a b c d e f u v : FVec Ideal S1x512x128 .f32) (q0 q1 q2 q3 : FVec Ideal S1x1024x1024 .bf16)
    (hl1 : ∀ j, lanes a b j = row4 l1 (j 0) (j 1)) (hl2 : ∀ j, lanes c d j = row16 l2 (j 0) (j 1))
    (ho1 : ∀ j, lanes e f j = row4 o1 (j 0) (j 1)) (ho2 : ∀ j, lanes u v j = row16 o2 (j 0) (j 1))
    (h0 : ∀ d k : Fin 1024, q0 (ix3 0 d k) = wg (ix3 0 d ⟨k.val, by omega⟩)) (h1 : ∀ d k : Fin 1024, q1 (ix3 0 d k) = wg (ix3 0 d ⟨1024 + k.val, by omega⟩))
    (h2 : ∀ d k : Fin 1024, q2 (ix3 0 d k) = wg (ix3 0 d ⟨2048 + k.val, by omega⟩)) (h3 : ∀ d k : Fin 1024, q3 (ix3 0 d k) = wg (ix3 0 d ⟨3072 + k.val, by omega⟩)) :
    k0_pay1 (F := Ideal) x od
      (k0_pay104 oc
        (k0_pay102 (k0_pay2 x g)
          (k0_pay101 (k0_pay65 (k0_pay54 l0 (k0_pay12 a b) c d o0) (k0_pay55 l0 (k0_pay12 a b) c d) e f)
            (k0_pay66 (k0_pay52 l0 (k0_pay12 a b) c d) (k0_pay53 l0 (k0_pay12 a b) c d)) u v)
          oa q0 wa q1 wb)
        (k0_pay103 (k0_pay2 x g) q2) wc)
      (k0_pay105 (k0_pay2 x g) q3) wd wo y
      = merge (fun d => x (ix2 (y 0) d)) (fun d => g (ix2 0 d)) (fun d f => wg (ix3 0 d f)) (fun e => oa (ix2 (y 0) e))
          (fun e => mix (l0 (ix2 (y 0) e)) (row4 l1 (y 0) e) (row16 l2 (y 0) e) (o0 (ix2 (y 0) e)) (row4 o1 (y 0) e) (row16 o2 (y 0) e))
          (fun e => oc (ix2 (y 0) e)) (fun e => od (ix2 (y 0) e)) (fun e f => wa (ix3 0 e f)) (fun e f => wb (ix3 0 e f))
          (fun e f => wc (ix3 0 e f)) (fun e f => wd (ix3 0 e f)) (fun k => wo (ix3 0 k (y 1))) (y 1) := by
  have ey : x y = x (ix2 (y 0) (y 1)) := congrArg x (by funext a; match a with | ⟨0, _⟩ => rfl | ⟨1, _⟩ => rfl)
  rw [last_at, ey]
  unfold merge merged
  refine congrArg (x (ix2 (y 0) (y 1)) + ·) (Finset.sum_congr rfl fun k _ => congrArg (· * wo (ix3 0 k (y 1))) ?_)
  rw [branch_at, branches_at]
  simp only [norm_at, mix_at, hl1, hl2, ho1, ho2]
  have c0 : (fun d : Fin 1024 => q0 (ix3 0 d k)) = fun d => wg (ix3 0 d ⟨k.val, by omega⟩) := funext fun d => h0 d k
  have c1 : (fun d : Fin 1024 => q1 (ix3 0 d k)) = fun d => wg (ix3 0 d ⟨1024 + k.val, by omega⟩) := funext fun d => h1 d k
  have c2 : (fun d : Fin 1024 => q2 (ix3 0 d k)) = fun d => wg (ix3 0 d ⟨2048 + k.val, by omega⟩) := funext fun d => h2 d k
  have c3 : (fun d : Fin 1024 => q3 (ix3 0 d k)) = fun d => wg (ix3 0 d ⟨3072 + k.val, by omega⟩) := funext fun d => h3 d k
  rw [← c0, ← c1, ← c2, ← c3]
  rfl

set_option maxHeartbeats 4000000 in
/-- What a grid point leaves in its block, at a place of the block. -/
theorem block_at (c : Dev nD) (t : Fin cfg0.N) (x : FVec Ideal S512x1024 .f32) (g : FVec Ideal S1x1024 .f32) (wg : FVec Ideal S1x1024x4096 .bf16)
    (oa : FVec Ideal S512x512 .bf16) (o0 : FVec Ideal S512x256 .f32) (x5 : FVec Ideal S1x4x128x256 .f32) (x6 : FVec Ideal S1x16x32x256 .f32)
    (l0 : FVec Ideal S512x256 .f32) (x8 : FVec Ideal S1x4x128x256 .f32) (x9 : FVec Ideal S1x16x32x256 .f32) (oc od : FVec Ideal S512x512 .bf16)
    (wa : FVec Ideal S1x512x1024 .bf16) (wb : FVec Ideal S1x256x1024 .bf16) (wc wd : FVec Ideal S1x512x1024 .bf16) (wo : FVec Ideal S1x1024x1024 .bf16)
    (e0 : iblk m c 0 t = x) (e1 : iblk m c 1 t = g) (e2 : iblk m c 2 t = wg) (e3 : iblk m c 3 t = oa) (e4 : iblk m c 4 t = o0)
    (e5 : iblk m c 5 t = x5) (e6 : iblk m c 6 t = x6) (e7 : iblk m c 7 t = l0) (e8 : iblk m c 8 t = x8) (e9 : iblk m c 9 t = x9)
    (e10 : iblk m c 10 t = oc) (e11 : iblk m c 11 t = od) (e12 : iblk m c 12 t = wa) (e13 : iblk m c 13 t = wb) (e14 : iblk m c 14 t = wc)
    (e15 : iblk m c 15 t = wd) (e16 : iblk m c 16 t = wo) (y : S512x1024.Idx) :
    outsAt0 m c t y = merge (fun d => x (ix2 (y 0) d)) (fun d => g (ix2 0 d)) (fun d f => wg (ix3 0 d f)) (fun e => oa (ix2 (y 0) e))
          (fun e => mix (l0 (ix2 (y 0) e)) (row4 x8 (y 0) e) (row16 x9 (y 0) e) (o0 (ix2 (y 0) e)) (row4 x5 (y 0) e) (row16 x6 (y 0) e))
          (fun e => oc (ix2 (y 0) e)) (fun e => od (ix2 (y 0) e)) (fun e f => wa (ix3 0 e f)) (fun e f => wb (ix3 0 e f))
          (fun e f => wc (ix3 0 e f)) (fun e f => wd (ix3 0 e f)) (fun k => wo (ix3 0 k (y 1))) (y 1) := by
  unfold outsAt0
  rw [e0, e1, e2, e3, e4, e5, e6, e7, e8, e9, e10, e11, e12, e13, e14, e15, e16]
  frame_open
  rw [readCov_of_pieces _ _ _ (back4 x8)]
  rotate_left
  · simp only [View.readAt_eq_ld, Memref.IsWhole.read_unread]
    repeat (refine ⟨fun x => piece4 _ _ _ _ (by decide) (by decide) _ _ _ _ _ x, ?_⟩)
    exact trivial
  · exact covers 4 128 (by omega) (by omega) _ rfl
  rw [readCov_of_pieces _ _ _ (back4 x8)]
  rotate_left
  · simp only [View.readAt_eq_ld, Memref.IsWhole.read_unread]
    repeat (refine ⟨fun x => piece4 _ _ _ _ (by decide) (by decide) _ _ _ _ _ x, ?_⟩)
    exact trivial
  · exact covers 4 128 (by omega) (by omega) _ rfl
  rw [readCov_of_pieces _ _ _ (back16 x9)]
  rotate_left
  · simp only [View.readAt_eq_ld, Memref.IsWhole.read_unread]
    repeat (refine ⟨fun x => piece16 _ _ _ _ (by decide) (by decide) _ _ _ _ _ x, ?_⟩)
    exact trivial
  · exact covers 16 32 (by omega) (by omega) _ rfl
  rw [readCov_of_pieces _ _ _ (back16 x9)]
  rotate_left
  · simp only [View.readAt_eq_ld, Memref.IsWhole.read_unread]
    repeat (refine ⟨fun x => piece16 _ _ _ _ (by decide) (by decide) _ _ _ _ _ x, ?_⟩)
    exact trivial
  · exact covers 16 32 (by omega) (by omega) _ rfl
  rw [readCov_of_pieces _ _ _ (back4 x5)]
  rotate_left
  · simp only [View.readAt_eq_ld, Memref.IsWhole.read_unread]
    repeat (refine ⟨fun x => piece4 _ _ _ _ (by decide) (by decide) _ _ _ _ _ x, ?_⟩)
    exact trivial
  · exact covers 4 128 (by omega) (by omega) _ rfl
  rw [readCov_of_pieces _ _ _ (back4 x5)]
  rotate_left
  · simp only [View.readAt_eq_ld, Memref.IsWhole.read_unread]
    repeat (refine ⟨fun x => piece4 _ _ _ _ (by decide) (by decide) _ _ _ _ _ x, ?_⟩)
    exact trivial
  · exact covers 4 128 (by omega) (by omega) _ rfl
  rw [readCov_of_pieces _ _ _ (back16 x6)]
  rotate_left
  · simp only [View.readAt_eq_ld, Memref.IsWhole.read_unread]
    repeat (refine ⟨fun x => piece16 _ _ _ _ (by decide) (by decide) _ _ _ _ _ x, ?_⟩)
    exact trivial
  · exact covers 16 32 (by omega) (by omega) _ rfl
  rw [readCov_of_pieces _ _ _ (back16 x6)]
  rotate_left
  · simp only [View.readAt_eq_ld, Memref.IsWhole.read_unread]
    repeat (refine ⟨fun x => piece16 _ _ _ _ (by decide) (by decide) _ _ _ _ _ x, ?_⟩)
    exact trivial
  · exact covers 16 32 (by omega) (by omega) _ rfl
  frame_out
  refine chain_at x g wg oa o0 x5 x6 l0 x8 x9 oc od wa wb wc wd wo y _ _ _ _ _ _ _ _ _ _ _ _ (fun j => lanes4 x8 _ _ j) (fun j => lanes16 x9 _ _ j)
    (fun j => lanes4 x5 _ _ j) (fun j => lanes16 x6 _ _ j) ?_ ?_ ?_ ?_
  · intro d k; pointwise
  · intro d k; pointwise
  · intro d k; pointwise
  · intro d k; pointwise

end Cert.Merge

end
-- ==== Proof.MergeRef.lean ====
module

public import proofs.«01_k».proof.Proof.Gen.Reference4Ideal.Run
public import proofs.«01_k».proof.Proof.Gen.Reference4Ideal.Read
public import proofs.«01_k».proof.Proof.MergeMath

@[expose] public section

/-! The merge reference's result at a place. -/

set_option maxRecDepth 16384

noncomputable section

namespace Cert.Merge.Ref

open Cert.FfnMath Cert.MergeMath
open Cert Cert.Reference4Ideal Cert.Reference4Ideal.Gen Cert.Reference4Ideal.Read Idealize.ShloMosaic Idealize.ShloMosaic.TcCoe Idealize.SL.Sem

variable (x0 : (⟨S49152x1024, .f32⟩ : BufTy).Contents (Elt Ideal)) (x1 : (⟨S2x1024, .f32⟩ : BufTy).Contents (Elt Ideal))
  (x2 : (⟨S2x1024x4096, .f32⟩ : BufTy).Contents (Elt Ideal)) (x3 : (⟨S49152x512, .bf16⟩ : BufTy).Contents (Elt Ideal))
  (x4 x7 : (⟨S49152x256, .f32⟩ : BufTy).Contents (Elt Ideal)) (x5 x8 : (⟨S12x4x1024x256, .f32⟩ : BufTy).Contents (Elt Ideal))
  (x6 x9 : (⟨S12x16x256x256, .f32⟩ : BufTy).Contents (Elt Ideal)) (x10 x11 : (⟨S49152x512, .bf16⟩ : BufTy).Contents (Elt Ideal))
  (x12 : (⟨S2x512x1024, .f32⟩ : BufTy).Contents (Elt Ideal)) (x13 : (⟨S2x256x1024, .f32⟩ : BufTy).Contents (Elt Ideal))
  (x14 x15 : (⟨S2x512x1024, .f32⟩ : BufTy).Contents (Elt Ideal)) (x16 : (⟨S2x1024x1024, .f32⟩ : BufTy).Contents (Elt Ideal))

/-- A row of an array whose positions are sorted by their residue modulo four. -/
def resid4 (x : (⟨S12x4x1024x256, .f32⟩ : BufTy).Contents (Elt Ideal)) (r : Fin 49152) (c : Fin 256) : EReal :=
  x (ix4 ⟨r.val / 4096, by omega⟩ ⟨r.val % 4, by omega⟩ ⟨r.val % 4096 / 4, by omega⟩ c)

/-- A row of an array whose positions are sorted by their residue modulo sixteen. -/
def resid16 (x : (⟨S12x16x256x256, .f32⟩ : BufTy).Contents (Elt Ideal)) (r : Fin 49152) (c : Fin 256) : EReal :=
  x (ix4 ⟨r.val / 4096, by omega⟩ ⟨r.val % 16, by omega⟩ ⟨r.val % 4096 / 16, by omega⟩ c)

/-- The normalised row. -/
theorem norm_at (j : S49152x1024.Idx) :
    val_main_v14 (F := Ideal) x0 x1 j = normRow (fun d => x0 (ix2 (j 0) d)) (fun d => x1 (ix2 1 d)) (j 1) := by
  pointwise [val_main_v0, val_main_v1, val_main_v2, val_main_v3, val_main_v4, val_main_v5, val_main_v6, val_main_v7,
    val_main_v8, val_main_v9, val_main_v10, val_main_v11, val_main_v12, val_main_v13, val_main_v14, val_main_cst,
    val_main_cst_0, val_main_cst_1, normRow]

/-- The second group's positions put back in order. -/
theorem o1_at (r : Fin 49152) (c : Fin 256) : val_main_v16 (F := Ideal) x5 (ix2 r c) = resid4 x5 r c := by
  rw [val_main_v16_apply, val_main_v15_apply]
  unfold resid4
  refine congrArg x5 ?_
  have hr := r.isLt; have hc := c.isLt
  funext a
  match a with
  | ⟨0, _⟩ => exact Fin.ext (by show (r.val * 256 + c.val) / 1048576 = r.val / 4096; omega)
  | ⟨1, _⟩ => exact Fin.ext (by show (r.val * 256 + c.val) / 256 % 4 = r.val % 4; omega)
  | ⟨2, _⟩ => exact Fin.ext (by show (r.val * 256 + c.val) / 1024 % 1024 = r.val % 4096 / 4; omega)
  | ⟨3, _⟩ => exact Fin.ext (by show (r.val * 256 + c.val) % 256 = c.val; omega)

/-- The third group's positions put back in order. -/
theorem o2_at (r : Fin 49152) (c : Fin 256) : val_main_v18 (F := Ideal) x6 (ix2 r c) = resid16 x6 r c := by
  rw [val_main_v18_apply, val_main_v17_apply]
  unfold resid16
  refine congrArg x6 ?_
  have hr := r.isLt; have hc := c.isLt
  funext a
  match a with
  | ⟨0, _⟩ => exact Fin.ext (by show (r.val * 256 + c.val) / 1048576 = r.val / 4096; omega)
  | ⟨1, _⟩ => exact Fin.ext (by show (r.val * 256 + c.val) / 256 % 16 = r.val % 16; omega)
  | ⟨2, _⟩ => exact Fin.ext (by show (r.val * 256 + c.val) / 4096 % 256 = r.val % 4096 / 16; omega)
  | ⟨3, _⟩ => exact Fin.ext (by show (r.val * 256 + c.val) % 256 = c.val; omega)

/-- The two programs' readers of the groups agree: the outputs' and the weights' arrays are put back in the same way. -/
theorem l1_at (r : Fin 49152) (c : Fin 256) : val_main_v24 (F := Ideal) x8 (ix2 r c) = resid4 x8 r c := o1_at x8 r c
/-- The third group's shifts, in the order of the rows. -/
theorem l2_at (r : Fin 49152) (c : Fin 256) : val_main_v26 (F := Ideal) x9 (ix2 r c) = resid16 x9 r c := o2_at x9 r c

/-- The stacked outputs, group by group. -/
theorem outs_at (r : Fin 49152) (c : Fin 256) : val_main_v22 (F := Ideal) x4 x5 x6 (ix3 0 r c) = x4 (ix2 r c)
    ∧ val_main_v22 (F := Ideal) x4 x5 x6 (ix3 1 r c) = resid4 x5 r c ∧ val_main_v22 (F := Ideal) x4 x5 x6 (ix3 2 r c) = resid16 x6 r c := by
  rw [← o1_at, ← o2_at]
  refine ⟨?_, ?_, ?_⟩
  · pointwise [val_main_v22, val_main_v19_apply]
    exact congrArg x4 (by funext a; match a with | ⟨0, _⟩ => rfl | ⟨1, _⟩ => rfl)
  · pointwise [val_main_v22, val_main_v20_apply]
    exact congrArg (val_main_v16 (F := Ideal) x5) (by funext a; match a with | ⟨0, _⟩ => rfl | ⟨1, _⟩ => rfl)
  · pointwise [val_main_v22, val_main_v21_apply]
    exact congrArg (val_main_v18 (F := Ideal) x6) (by funext a; match a with | ⟨0, _⟩ => rfl | ⟨1, _⟩ => rfl)

/-- The stacked weights' logarithms, group by group. -/
theorem lses_at (r : Fin 49152) (c : Fin 256) : val_main_v30 (F := Ideal) x7 x8 x9 (ix3 0 r c) = x7 (ix2 r c)
    ∧ val_main_v30 (F := Ideal) x7 x8 x9 (ix3 1 r c) = resid4 x8 r c ∧ val_main_v30 (F := Ideal) x7 x8 x9 (ix3 2 r c) = resid16 x9 r c :=
  outs_at x7 x8 x9 r c

/-- A maximum over three groups. -/
theorem reduce_three (x : FVec Ideal S3x49152x256 .f32) (v : FVec Ideal S_ .f32) (hv : v (Shape.Idx.first h_S_) = (⊥ : EReal)) (r : Fin 49152) (c : Fin 256) :
    Host.reduce (FloatOps.maximumf (F := Ideal)) x v reducesTo_S3x49152x256_S49152x256_d0 h_S_ (ix2 r c)
      = top (x (ix3 0 r c)) (x (ix3 1 r c)) (x (ix3 2 r c)) := by
  have h : (S3x49152x256 : Shape).Reduces [0] S49152x256 := by decide
  rw [Host.reduce_eq_fold, Shape.ReducesTo.drop_eq_drop reducesTo_S3x49152x256_S49152x256_d0 h, h.fold_filter_drop_single, hv]
  have e : ∀ k : Fin 3, h.lift (ix2 r c) k = ix3 k r c := by
    intro k; funext a; match a with | ⟨0, _⟩ => rfl | ⟨1, _⟩ => rfl | ⟨2, _⟩ => rfl
  have u : (Finset.univ : Finset (Fin 3)) = {0, 1, 2} := rfl
  show Finset.fold max (⊥ : EReal) (fun k : Fin 3 => x (h.lift (ix2 r c) k)) Finset.univ = _
  simp only [e]
  rw [u, Finset.fold_insert (by decide), Finset.fold_insert (by decide), Finset.fold_singleton]
  unfold top
  rw [max_bot_right, max_assoc]

/-- The shift of the reference's softmax. -/
theorem shift_at (r : Fin 49152) (c : Fin 256) : val_main_v33 (F := Ideal) x7 x8 x9 (ix2 r c)
    = top (x7 (ix2 r c)) (resid4 x8 r c) (resid16 x9 r c) := by
  obtain ⟨e0, e1, e2⟩ := lses_at x7 x8 x9 r c
  rw [val_main_v33_apply, val_main_v32_apply]
  unfold val_main_v31 val_main_cst_3
  rw [reduce_three (val_main_v30 (F := Ideal) x7 x8 x9) (val_main_cst_2 (F := Ideal)) (by simp [val_main_cst_2, Ideal.ofBits, Ideal.ieee, constant]) r c, e0, e1, e2]
  show max (Ideal.ofBits .f32 4286578688#32) _ = _
  rw [show Ideal.ofBits .f32 4286578688#32 = ⊥ by simp [Ideal.ofBits, Ideal.ieee]]
  exact max_eq_right bot_le

/-- The exponentials of the reference's softmax. -/
theorem exps_at (k : Fin 3) (r : Fin 49152) (c : Fin 256) : val_main_v37 (F := Ideal) x7 x8 x9 (ix3 k r c)
    = Ideal.exp (val_main_v30 (F := Ideal) x7 x8 x9 (ix3 k r c) - top (x7 (ix2 r c)) (resid4 x8 r c) (resid16 x9 r c)) := by
  rw [val_main_v37_apply, val_main_v36_apply, val_main_v35_apply, val_main_v34_apply,
    show idx_main_v34 (idx_main_v35 (ix3 k r c)) = ix2 r c by funext a; match a with | ⟨0, _⟩ => rfl | ⟨1, _⟩ => rfl, shift_at]
  rfl

/-- The groups' weighted sum. -/
theorem mix_at (r : Fin 49152) (c : Fin 256) : val_main_v43 (F := Ideal) x4 x5 x6 x7 x8 x9 (ix2 r c)
    = mix (x7 (ix2 r c)) (resid4 x8 r c) (resid16 x9 r c) (x4 (ix2 r c)) (resid4 x5 r c) (resid16 x6 r c) := by
  obtain ⟨e0, e1, e2⟩ := lses_at x7 x8 x9 r c
  obtain ⟨f0, f1, f2⟩ := outs_at x4 x5 x6 r c
  have z4 : val_main_cst_4 (F := Ideal) (Shape.Idx.first h_S_) = (0 : EReal) := by simp [val_main_cst_4, Ideal.ofBits, Ideal.ieee, constant]
  have z5 : val_main_cst_5 (F := Ideal) (Shape.Idx.first h_S_) = (0 : EReal) := by simp [val_main_cst_5, Ideal.ofBits, Ideal.ieee, constant]
  have i43 : ∀ k : Fin 3, idx_main_v43 (ix2 r c) k = ix3 k r c := by
    intro k; funext a; match a with | ⟨0, _⟩ => rfl | ⟨1, _⟩ => rfl | ⟨2, _⟩ => rfl
  have i38 : ∀ k : Fin 3, idx_main_v38 (ix2 r c) k = ix3 k r c := by
    intro k; funext a; match a with | ⟨0, _⟩ => rfl | ⟨1, _⟩ => rfl | ⟨2, _⟩ => rfl
  have i40 : ∀ k : Fin 3, idx_main_v39 (idx_main_v40 (ix3 k r c)) = ix2 r c := by
    intro k; funext a; match a with | ⟨0, _⟩ => rfl | ⟨1, _⟩ => rfl
  have hden : val_main_v38 (F := Ideal) x7 x8 x9 (ix2 r c) = den (x7 (ix2 r c)) (resid4 x8 r c) (resid16 x9 r c) := by
    rw [val_main_v38_apply, z4, zero_add, Fin.sum_univ_three, i38, i38, i38, exps_at, exps_at, exps_at, e0, e1, e2]
    rfl
  have hw : ∀ k : Fin 3, val_main_v42 (F := Ideal) x4 x5 x6 x7 x8 x9 (ix3 k r c)
      = Ideal.div (Ideal.exp (val_main_v30 (F := Ideal) x7 x8 x9 (ix3 k r c) - top (x7 (ix2 r c)) (resid4 x8 r c) (resid16 x9 r c)))
          (den (x7 (ix2 r c)) (resid4 x8 r c) (resid16 x9 r c)) * val_main_v22 (F := Ideal) x4 x5 x6 (ix3 k r c) := by
    intro k
    rw [val_main_v42_apply, val_main_v41_apply, val_main_v40_apply, val_main_v39_apply, i40, hden, exps_at]
    rfl
  rw [val_main_v43_apply, z5, zero_add, Fin.sum_univ_three, i43, i43, i43, hw, hw, hw, e0, e1, e2, f0, f1, f2]
  rfl

/-- A gate. -/
theorem gate_at (r : Fin 49152) (i : Fin 4) (k : Fin 1024) : val_main_v68 (F := Ideal) x0 x1 x2 (ix3 r i k)
    = gateOf (∑ d, normRow (fun d => x0 (ix2 r d)) (fun d => x1 (ix2 1 d)) d * x2 (ix3 1 d ⟨i.val * 1024 + k.val, by omega⟩)) := by
  have hi : idx_main_v68 (ix3 r i k) = ix2 r ⟨i.val * 1024 + k.val, by omega⟩ := by
    have hr := r.isLt; have hi := i.isLt; have hk := k.isLt
    funext a
    match a with
    | ⟨0, _⟩ => exact Fin.ext (by show ((r.val * 4 + i.val) * 1024 + k.val) / 4096 = r.val; omega)
    | ⟨1, _⟩ => exact Fin.ext (by show ((r.val * 4 + i.val) * 1024 + k.val) % 4096 = i.val * 1024 + k.val; omega)
  rw [val_main_v68_apply, hi]
  pointwise [val_main_v67_apply, val_main_v66_apply, val_main_v65_apply, val_main_v64_apply, val_main_v63_apply, val_main_v62_apply,
    val_main_v61, val_main_v60, val_main_v59, val_main_cst_6, val_main_cst_7, norm_at, gateOf]

/-- The four projected branches. -/
theorem branches_at (r : Fin 49152) (k : Fin 1024) :
    val_main_v73 (F := Ideal) x3 x4 x5 x6 x7 x8 x9 x10 x11 x12 x13 x14 x15 (ix3 r 0 k) = ∑ e : Fin 512, x3 (ix2 r e) * x12 (ix3 1 e k)
    ∧ val_main_v73 (F := Ideal) x3 x4 x5 x6 x7 x8 x9 x10 x11 x12 x13 x14 x15 (ix3 r 1 k)
      = ∑ e : Fin 256, mix (x7 (ix2 r e)) (resid4 x8 r e) (resid16 x9 r e) (x4 (ix2 r e)) (resid4 x5 r e) (resid16 x6 r e) * x13 (ix3 1 e k)
    ∧ val_main_v73 (F := Ideal) x3 x4 x5 x6 x7 x8 x9 x10 x11 x12 x13 x14 x15 (ix3 r 2 k) = ∑ e : Fin 512, x10 (ix2 r e) * x14 (ix3 1 e k)
    ∧ val_main_v73 (F := Ideal) x3 x4 x5 x6 x7 x8 x9 x10 x11 x12 x13 x14 x15 (ix3 r 3 k) = ∑ e : Fin 512, x11 (ix2 r e) * x15 (ix3 1 e k) := by
  refine ⟨?_, ?_, ?_, ?_⟩
  · pointwise [val_main_v73, val_main_v69, val_main_v47, val_main_v44, val_main_v46, val_main_v45]
  · simp only [← mix_at]
    pointwise [val_main_v73, val_main_v70, val_main_v50, val_main_v49, val_main_v48]
  · pointwise [val_main_v73, val_main_v71, val_main_v54, val_main_v51, val_main_v53, val_main_v52]
  · pointwise [val_main_v73, val_main_v72, val_main_v58, val_main_v55, val_main_v57, val_main_v56]

/-- The merged channels. -/
theorem merged_at (r : Fin 49152) (k : Fin 1024) :
    val_main_v75 (F := Ideal) x0 x1 x2 x3 x4 x5 x6 x7 x8 x9 x10 x11 x12 x13 x14 x15 (ix2 r k)
      = merged (normRow (fun d => x0 (ix2 r d)) (fun d => x1 (ix2 1 d))) (fun d f => x2 (ix3 1 d f)) (fun e => x3 (ix2 r e))
          (fun e => mix (x7 (ix2 r e)) (resid4 x8 r e) (resid16 x9 r e) (x4 (ix2 r e)) (resid4 x5 r e) (resid16 x6 r e))
          (fun e => x10 (ix2 r e)) (fun e => x11 (ix2 r e)) (fun e f => x12 (ix3 1 e f)) (fun e f => x13 (ix3 1 e f))
          (fun e f => x14 (ix3 1 e f)) (fun e f => x15 (ix3 1 e f)) k := by
  obtain ⟨b0, b1, b2, b3⟩ := branches_at x3 x4 x7 x5 x8 x6 x9 x10 x11 x12 x13 x14 x15 r k
  have z8 : val_main_cst_8 (F := Ideal) (Shape.Idx.first h_S_) = (0 : EReal) := by simp [val_main_cst_8, Ideal.ofBits, Ideal.ieee, constant]
  have i75 : ∀ i : Fin 4, idx_main_v75 (ix2 r k) i = ix3 r i k := by
    intro i; funext a; match a with | ⟨0, _⟩ => rfl | ⟨1, _⟩ => rfl | ⟨2, _⟩ => rfl
  have c0 : (⟨(0 : Fin 4).val * 1024 + k.val, by omega⟩ : Fin 4096) = ⟨k.val, by omega⟩ := Fin.ext (by show 0 * 1024 + k.val = k.val; omega)
  have c1 : (⟨(1 : Fin 4).val * 1024 + k.val, by omega⟩ : Fin 4096) = ⟨1024 + k.val, by omega⟩ := Fin.ext (by show 1 * 1024 + k.val = 1024 + k.val; omega)
  have c2 : (⟨(2 : Fin 4).val * 1024 + k.val, by omega⟩ : Fin 4096) = ⟨2048 + k.val, by omega⟩ := Fin.ext (by show 2 * 1024 + k.val = 2048 + k.val; omega)
  have c3 : (⟨(3 : Fin 4).val * 1024 + k.val, by omega⟩ : Fin 4096) = ⟨3072 + k.val, by omega⟩ := Fin.ext (by show 3 * 1024 + k.val = 3072 + k.val; omega)
  rw [val_main_v75_apply, z8, zero_add, Fin.sum_univ_four, i75, i75, i75, i75, val_main_v74_apply, val_main_v74_apply, val_main_v74_apply,
    val_main_v74_apply, gate_at, gate_at, gate_at, gate_at, b0, b1, b2, b3, c0, c1, c2, c3]
  rfl

/-- The reference at a place. -/
theorem ref_at (r : Fin 49152) (c : Fin 1024) :
    val_main_v79 (F := Ideal) x0 x1 x2 x3 x4 x5 x6 x7 x8 x9 x10 x11 x12 x13 x14 x15 x16 (ix2 r c)
      = merge (fun d => x0 (ix2 r d)) (fun d => x1 (ix2 1 d)) (fun d f => x2 (ix3 1 d f)) (fun e => x3 (ix2 r e))
          (fun e => mix (x7 (ix2 r e)) (resid4 x8 r e) (resid16 x9 r e) (x4 (ix2 r e)) (resid4 x5 r e) (resid16 x6 r e))
          (fun e => x10 (ix2 r e)) (fun e => x11 (ix2 r e)) (fun e f => x12 (ix3 1 e f)) (fun e f => x13 (ix3 1 e f))
          (fun e f => x14 (ix3 1 e f)) (fun e f => x15 (ix3 1 e f)) (fun k => x16 (ix3 1 k c)) c := by
  unfold merge
  simp only [← merged_at]
  pointwise [val_main_v79, val_main_v78, val_main_v77, val_main_v76]

end Cert.Merge.Ref

end
-- ==== Proof.MergeValue.lean ====
module

public import proofs.«01_k».proof.Defs
public import proofs.«01_k».proof.Proof.MergeBlock
public import proofs.«01_k».proof.Proof.MergeRef
public import Idealize.ShloMosaic.Lib.Claim

@[expose] public section

/-! The merge kernel's result array is the reference's, and the claim that says so. -/

set_option maxRecDepth 16384

noncomputable section

namespace Cert.Merge

open Cert.Kernel4Ideal Cert.Kernel4Ideal.Gen Idealize.ShloMosaic Idealize.ShloMosaic.TcCoe Idealize.SL.Sem
open Idealize.ShloMosaic.Pipeline (Dat)
open Cert.FfnMath Cert.MergeMath

variable (m : (ℓ : Loc nD τ sig) → Buf (Elt Ideal) ℓ)

/-- The reference's result, as a function of the seventeen arguments. -/
abbrev REF (x0 : FVec Ideal S49152x1024 .f32) (x1 : FVec Ideal S2x1024 .f32) (x2 : FVec Ideal S2x1024x4096 .f32) (x3 : FVec Ideal S49152x512 .bf16)
    (x4 : FVec Ideal S49152x256 .f32) (x5 : FVec Ideal S12x4x1024x256 .f32) (x6 : FVec Ideal S12x16x256x256 .f32)
    (x7 : FVec Ideal S49152x256 .f32) (x8 : FVec Ideal S12x4x1024x256 .f32) (x9 : FVec Ideal S12x16x256x256 .f32)
    (x10 x11 : FVec Ideal S49152x512 .bf16) (x12 : FVec Ideal S2x512x1024 .f32) (x13 : FVec Ideal S2x256x1024 .f32)
    (x14 x15 : FVec Ideal S2x512x1024 .f32) (x16 : FVec Ideal S2x1024x1024 .f32) : FVec Ideal S49152x1024 .f32 :=
  Cert.Reference4Ideal.Read.val_main_v79 (F := Ideal) x0 x1 x2 x3 x4 x5 x6 x7 x8 x9 x10 x11 x12 x13 x14 x15 x16

/-- Where each window's block lies at a grid point. -/
theorem idx : ∀ t : Fin cfg0.N, win0_0.index t = ![t.val, 0] ∧ win0_1.index t = ![0, 0] ∧ win0_2.index t = ![1, 0, 0]
     ∧ win0_3.index t = ![t.val, 0] ∧ win0_4.index t = ![t.val, 0] ∧ win0_5.index t = ![t.val / 8, 0, t.val % 8, 0]
     ∧ win0_6.index t = ![t.val / 8, 0, t.val % 8, 0] ∧ win0_7.index t = ![t.val, 0] ∧ win0_8.index t = ![t.val / 8, 0, t.val % 8, 0]
     ∧ win0_9.index t = ![t.val / 8, 0, t.val % 8, 0] ∧ win0_10.index t = ![t.val, 0] ∧ win0_11.index t = ![t.val, 0]
     ∧ win0_12.index t = ![1, 0, 0] ∧ win0_13.index t = ![1, 0, 0] ∧ win0_14.index t = ![1, 0, 0]
     ∧ win0_15.index t = ![1, 0, 0] ∧ win0_16.index t = ![1, 0, 0] ∧ win0_17.index t = ![t.val, 0]
     :=
  (by decide +kernel : ∀ t : Fin grid0.N, win0_0.index t = ![t.val, 0] ∧ win0_1.index t = ![0, 0] ∧ win0_2.index t = ![1, 0, 0]
     ∧ win0_3.index t = ![t.val, 0] ∧ win0_4.index t = ![t.val, 0] ∧ win0_5.index t = ![t.val / 8, 0, t.val % 8, 0]
     ∧ win0_6.index t = ![t.val / 8, 0, t.val % 8, 0] ∧ win0_7.index t = ![t.val, 0] ∧ win0_8.index t = ![t.val / 8, 0, t.val % 8, 0]
     ∧ win0_9.index t = ![t.val / 8, 0, t.val % 8, 0] ∧ win0_10.index t = ![t.val, 0] ∧ win0_11.index t = ![t.val, 0]
     ∧ win0_12.index t = ![1, 0, 0] ∧ win0_13.index t = ![1, 0, 0] ∧ win0_14.index t = ![1, 0, 0]
     ∧ win0_15.index t = ![1, 0, 0] ∧ win0_16.index t = ![1, 0, 0] ∧ win0_17.index t = ![t.val, 0]
    )

/-- What a grid point leaves in its block, at a place of the block. -/
theorem point (c : Dev nD) (t : Fin cfg0.N) (y : S512x1024.Idx) (j : S49152x1024.Idx)
    (hj0 : (j 0 : ℕ) = t.val * 512 + y 0) (hj1 : (j 1 : ℕ) = y 1) :
    outsAt0 m c t y
      = REF (m ((c : Thread nD τ).loc main_arg0)) (m ((c : Thread nD τ).loc main_arg1)) (m ((c : Thread nD τ).loc main_arg2)) (m ((c : Thread nD τ).loc main_arg3))
         (m ((c : Thread nD τ).loc main_arg4)) (m ((c : Thread nD τ).loc main_arg5)) (m ((c : Thread nD τ).loc main_arg6)) (m ((c : Thread nD τ).loc main_arg7))
         (m ((c : Thread nD τ).loc main_arg8)) (m ((c : Thread nD τ).loc main_arg9)) (m ((c : Thread nD τ).loc main_arg10)) (m ((c : Thread nD τ).loc main_arg11))
         (m ((c : Thread nD τ).loc main_arg12)) (m ((c : Thread nD τ).loc main_arg13)) (m ((c : Thread nD τ).loc main_arg14)) (m ((c : Thread nD τ).loc main_arg15))
         (m ((c : Thread nD τ).loc main_arg16)) j := by
  have ht : t.val < 96 := t.isLt
  have hy : (y 0).val < 512 := (y 0).isLt
  have ej : j = ix2 (j 0) (j 1) := by funext a; match a with | ⟨0, _⟩ => rfl | ⟨1, _⟩ => rfl
  rw [ej]
  refine (block_at m c t _ _ _ _ _ _ _ _ _ _ _ _ _ _ _ _ _ rfl rfl rfl rfl rfl rfl rfl rfl rfl rfl rfl rfl rfl rfl rfl rfl rfl y).trans ?_
  refine Eq.trans ?_ (Ref.ref_at _ _ _ _ _ _ _ _ _ _ _ _ _ _ _ _ _ (j 0) (j 1)).symm
  have e1 : (y 1 : Fin 1024) = j 1 := Fin.ext hj1.symm
  have hx : (fun d : Fin 1024 => iblk m c 0 t (ix2 (y 0) d)) = fun d => m ((c : Thread nD τ).loc main_arg0) (ix2 (j 0) d) := by
    funext d; blk_point [iblk, V, idx t]
  have hg : (fun d : Fin 1024 => iblk m c 1 t (ix2 0 d)) = fun d => m ((c : Thread nD τ).loc main_arg1) (ix2 1 d) := by
    funext d; blk_point [iblk, V, idx t]
  have h2 : (fun (d : Fin 1024) (f : Fin 4096) => iblk m c 2 t (ix3 0 d f)) = fun d f => m ((c : Thread nD τ).loc main_arg2) (ix3 1 d f) := by
    funext d f; blk_point [iblk, V, idx t]
  have h3 : (fun e : Fin 512 => iblk m c 3 t (ix2 (y 0) e)) = fun e => m ((c : Thread nD τ).loc main_arg3) (ix2 (j 0) e) := by
    funext e; blk_point [iblk, V, idx t]
  have h4 : ∀ e : Fin 256, iblk m c 4 t (ix2 (y 0) e) = m ((c : Thread nD τ).loc main_arg4) (ix2 (j 0) e) := by
    intro e; blk_point [iblk, V, idx t]
  have h7 : ∀ e : Fin 256, iblk m c 7 t (ix2 (y 0) e) = m ((c : Thread nD τ).loc main_arg7) (ix2 (j 0) e) := by
    intro e; blk_point [iblk, V, idx t]
  have h5 : ∀ e : Fin 256, row4 (iblk m c 5 t) (y 0) e = Ref.resid4 (m ((c : Thread nD τ).loc main_arg5)) (j 0) e := by
    intro e; unfold row4 Ref.resid4; blk_point [iblk, V, idx t]
  have h8 : ∀ e : Fin 256, row4 (iblk m c 8 t) (y 0) e = Ref.resid4 (m ((c : Thread nD τ).loc main_arg8)) (j 0) e := by
    intro e; unfold row4 Ref.resid4; blk_point [iblk, V, idx t]
  have h6 : ∀ e : Fin 256, row16 (iblk m c 6 t) (y 0) e = Ref.resid16 (m ((c : Thread nD τ).loc main_arg6)) (j 0) e := by
    intro e; unfold row16 Ref.resid16; blk_point [iblk, V, idx t]
  have h9 : ∀ e : Fin 256, row16 (iblk m c 9 t) (y 0) e = Ref.resid16 (m ((c : Thread nD τ).loc main_arg9)) (j 0) e := by
    intro e; unfold row16 Ref.resid16; blk_point [iblk, V, idx t]
  have h10 : (fun e : Fin 512 => iblk m c 10 t (ix2 (y 0) e)) = fun e => m ((c : Thread nD τ).loc main_arg10) (ix2 (j 0) e) := by
    funext e; blk_point [iblk, V, idx t]
  have h11 : (fun e : Fin 512 => iblk m c 11 t (ix2 (y 0) e)) = fun e => m ((c : Thread nD τ).loc main_arg11) (ix2 (j 0) e) := by
    funext e; blk_point [iblk, V, idx t]
  have h12 : (fun (e : Fin 512) (f : Fin 1024) => iblk m c 12 t (ix3 0 e f)) = fun e f => m ((c : Thread nD τ).loc main_arg12) (ix3 1 e f) := by
    funext e f; blk_point [iblk, V, idx t]
  have h13 : (fun (e : Fin 256) (f : Fin 1024) => iblk m c 13 t (ix3 0 e f)) = fun e f => m ((c : Thread nD τ).loc main_arg13) (ix3 1 e f) := by
    funext e f; blk_point [iblk, V, idx t]
  have h14 : (fun (e : Fin 512) (f : Fin 1024) => iblk m c 14 t (ix3 0 e f)) = fun e f => m ((c : Thread nD τ).loc main_arg14) (ix3 1 e f) := by
    funext e f; blk_point [iblk, V, idx t]
  have h15 : (fun (e : Fin 512) (f : Fin 1024) => iblk m c 15 t (ix3 0 e f)) = fun e f => m ((c : Thread nD τ).loc main_arg15) (ix3 1 e f) := by
    funext e f; blk_point [iblk, V, idx t]
  have h16 : (fun k : Fin 1024 => iblk m c 16 t (ix3 0 k (y 1))) = fun k => m ((c : Thread nD τ).loc main_arg16) (ix3 1 k (j 1)) := by
    funext k; blk_point [iblk, V, idx t]
  rw [hx, hg, h2, h3, h10, h11, h12, h13, h14, h15, h16, e1]
  simp only [h4, h5, h6, h7, h8, h9]

/-- The output blocks cover the array. -/
theorem final (c : Dev nD) : (dats m 0 c).arrAt 17 (cfgs 0).N
    = REF (m ((c : Thread nD τ).loc main_arg0)) (m ((c : Thread nD τ).loc main_arg1)) (m ((c : Thread nD τ).loc main_arg2)) (m ((c : Thread nD τ).loc main_arg3))
         (m ((c : Thread nD τ).loc main_arg4)) (m ((c : Thread nD τ).loc main_arg5)) (m ((c : Thread nD τ).loc main_arg6)) (m ((c : Thread nD τ).loc main_arg7))
         (m ((c : Thread nD τ).loc main_arg8)) (m ((c : Thread nD τ).loc main_arg9)) (m ((c : Thread nD τ).loc main_arg10)) (m ((c : Thread nD τ).loc main_arg11))
         (m ((c : Thread nD τ).loc main_arg12)) (m ((c : Thread nD τ).loc main_arg13)) (m ((c : Thread nD τ).loc main_arg14)) (m ((c : Thread nD τ).loc main_arg15))
         (m ((c : Thread nD τ).loc main_arg16)) := by
  refine (dats m 0 c).arrAt_eq_of_covers 17 _ (by decide +kernel) fun t _ y => ?_
  rw [after0_17]
  have hp := point m c t y
  generalize REF (m ((c : Thread nD τ).loc main_arg0)) (m ((c : Thread nD τ).loc main_arg1)) (m ((c : Thread nD τ).loc main_arg2)) (m ((c : Thread nD τ).loc main_arg3))
         (m ((c : Thread nD τ).loc main_arg4)) (m ((c : Thread nD τ).loc main_arg5)) (m ((c : Thread nD τ).loc main_arg6)) (m ((c : Thread nD τ).loc main_arg7))
         (m ((c : Thread nD τ).loc main_arg8)) (m ((c : Thread nD τ).loc main_arg9)) (m ((c : Thread nD τ).loc main_arg10)) (m ((c : Thread nD τ).loc main_arg11))
         (m ((c : Thread nD τ).loc main_arg12)) (m ((c : Thread nD τ).loc main_arg13)) (m ((c : Thread nD τ).loc main_arg14)) (m ((c : Thread nD τ).loc main_arg15))
         (m ((c : Thread nD τ).loc main_arg16)) = R at hp ⊢
  generalize outsAt0 m c t = o at hp ⊢
  refine hp _ ?_ ?_
  · blk_simp [idx t] <;> try omega
  · blk_simp [idx t] <;> try omega

/-- At the ideal values the kernel computes the reference. -/
theorem algebraic : Cert.algebraic_Kernel4Ideal_Reference4Ideal := by
  pair_intro
  · run_from Cert.Kernel4Ideal.Value.run_blocks m g
  · run_from Cert.Reference4Ideal.Value.run m' g'
    obtain ⟨e0, e1, e2, e3, e4, e5, e6, e7, e8, e9, e10, e11, e12, e13, e14, e15, e16⟩ := hagree c
    rw [Cert.Reference4Ideal.Read.val_main_v79_eq, e0, e1, e2, e3, e4, e5, e6, e7, e8, e9, e10, e11, e12, e13, e14, e15, e16]
    exact (final m c).symm

end Cert.Merge

end
-- ==== Proof.FfnTwoIdealFrame.lean ====
module

public import proofs.«01_k».proof.Proof.Gen.Kernel5Ideal.Frame
public import proofs.«01_k».proof.Proof.Gen.Kernel5Ideal.Skeleton
public import Idealize.ShloMosaic.Lib.Pipeline.TableIdle
public import Idealize.ShloMosaic.Lib.Claim

@[expose] public section

/-! The run of the feed-forward kernel with two outputs. The first 32 of the 96 grid points store their block into the
first output and the other 64 into the second; the first output's buffer keeps the block of point 31 until the last
point writes it back once more. -/

set_option maxRecDepth 16384

noncomputable section

namespace Cert.FfnTwo.Ideal

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block a point computes -/

/-- A whole block of rows. -/
abbrev rows : Rect S512x1024 := Rect.unit (s := S512x1024) ![0, 0] S512x1024.size inb_S512x1024_S512x1024_0_0
/-- The row of gains. -/
abbrev gains : Rect S1x1024 := Rect.unit (s := S1x1024) ![0, 0] S1x1024.size inb_S1x1024_S1x1024_0_0
/-- The hidden units below 1024, of the gate's and the up projection's weights. -/
abbrev in0 : Rect S1x1024x2816 := Rect.unit (s := S1x1024x2816) ![0, 0, 0] S1x1024x1024.size inb_S1x1024x2816_S1x1024x1024_0_0_0
/-- The hidden units from 1024 to 2047. -/
abbrev in1 : Rect S1x1024x2816 := Rect.unit (s := S1x1024x2816) ![0, 0, 1024] S1x1024x1024.size inb_S1x1024x2816_S1x1024x1024_0_0_1024
/-- The hidden units from 2048 on. -/
abbrev in2 : Rect S1x1024x2816 := Rect.unit (s := S1x1024x2816) ![0, 0, 2048] S1x1024x768.size inb_S1x1024x2816_S1x1024x768_0_0_2048
/-- The hidden units below 1024, of the down projection's weights. -/
abbrev dn0 : Rect S1x2816x1024 := Rect.unit (s := S1x2816x1024) ![0, 0, 0] S1x1024x1024.size inb_S1x2816x1024_S1x1024x1024_0_0_0
/-- The hidden units from 1024 to 2047, of the down projection's weights. -/
abbrev dn1 : Rect S1x2816x1024 := Rect.unit (s := S1x2816x1024) ![0, 1024, 0] S1x1024x1024.size inb_S1x2816x1024_S1x1024x1024_0_1024_0
/-- The hidden units from 2048 on, of the down projection's weights. -/
abbrev dn2 : Rect S1x2816x1024 := Rect.unit (s := S1x2816x1024) ![0, 2048, 0] S1x768x1024.size inb_S1x2816x1024_S1x768x1024_0_2048_0

/-- The normalised rows. -/
def normed (x0 : Vec F S512x1024 .f32) (x1 : Vec F S1x1024 .f32) : FVec F S512x1024 .bf16 :=
  k0_pay2 (View.ld x0 rows) (View.ld x1 gains)

/-- The rows after the feed-forward block: what a point stores, in whichever output. -/
def fed (x0 : Vec F S512x1024 .f32) (x1 : Vec F S1x1024 .f32) (x2 x3 : Vec F S1x1024x2816 .bf16) (x4 : Vec F S1x2816x1024 .bf16) :
    FVec F S512x1024 .f32 :=
  k0_pay1 (k0_pay4 (normed x0 x1) (k0_pay3 (View.ld x0 rows) (View.ld x1 gains) (View.ld x2 in0) (View.ld x3 in0) (View.ld x4 dn0))
      (View.ld x2 in1) (View.ld x3 in1) (View.ld x4 dn1))
    (k0_pay5 (normed x0 x1) (View.ld x2 in2) (View.ld x3 in2)) (View.ld x4 dn2)

/-- An output's buffer after the point's store. -/
def stored (x0 : Vec F S512x1024 .f32) (x1 : Vec F S1x1024 .f32) (x2 x3 : Vec F S1x1024x2816 .bf16) (x4 : Vec F S1x2816x1024 .bf16) :
    Vec F S512x1024 .f32 :=
  View.canon [⟨rows, fed x0 x1 x2 x3 x4⟩]

/-- The one store covers the buffer. -/
theorem store_covers (p : Vec F S512x1024 .f32) (y : S512x1024.Idx) :
    ∃ pc ∈ ([⟨rows, p⟩] : List (View.Piece (Elt F) S512x1024 .f32)), y ∈ pc.1.set :=
  View.cover_of_tiled [⟨rows, p⟩] S512x1024.size (by rfl) y

/-! ## The body, in each of its two cases -/

set_option maxHeartbeats 1000000 in
/-- Where the first condition holds and the second does not, the body stores the rows into the first output. -/
theorem body_first (c : Dev nD) (E : Set ℕ) (i : grid0.Coords) (h1 : k0_cond1 i = 1#1) (h2 : ¬ k0_cond2 i = 1#1) (a1 : Memref sig .tc .vmem S512x1024 .f32) (w1 : a1.IsWhole) (a2 : Memref sig .tc .vmem S1x1024 .f32) (w2 : a2.IsWhole) (a3 : Memref sig .tc .vmem S1x1024x2816 .bf16) (w3 : a3.IsWhole) (a4 : Memref sig .tc .vmem S1x1024x2816 .bf16) (w4 : a4.IsWhole) (a5 : Memref sig .tc .vmem S1x2816x1024 .bf16) (w5 : a5.IsWhole) (a6 : Memref sig .tc .vmem S512x1024 .f32) (w6 : a6.IsWhole) (a7 : Memref sig .tc .vmem S512x1024 .f32) (w7 : a7.IsWhole)
    (x0 : Vec F S512x1024 .f32) (x1 : Vec F S1x1024 .f32) (x2 x3 : Vec F S1x1024x2816 .bf16) (x4 : Vec F S1x2816x1024 .bf16) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (stored x0 x1 x2 x3 x4)) -∗ K ⟨⟩))
      ⊢ wp frame (wpE (defs₀ (F := F)) Variants.none c none) E (cc0_ffn i a1 w1 a2 w2 a3 w3 a4 w4 a5 w5 a6 w6 a7 w7) K := by
  simp only [cc0_ffn_eq_skeleton]; unfold cc0_ffn_skel
  simp only [k0_part1_eq_skeleton, k0_part2_eq_skeleton]
  unfold owns
  iintro ⟨⟨%f0, %e0, H0⟩, ⟨%f1, %e1, H1⟩, ⟨%f2, %e2, H2⟩, ⟨%f3, %e3, H3⟩, ⟨%f4, %e4, H4⟩, ⟨%d, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (store_covers _)).trans rfl

set_option maxHeartbeats 1000000 in
/-- Where the second condition holds and the first does not, the body stores the rows into the second output. -/
theorem body_second (c : Dev nD) (E : Set ℕ) (i : grid0.Coords) (h1 : ¬ k0_cond1 i = 1#1) (h2 : k0_cond2 i = 1#1) (a1 : Memref sig .tc .vmem S512x1024 .f32) (w1 : a1.IsWhole) (a2 : Memref sig .tc .vmem S1x1024 .f32) (w2 : a2.IsWhole) (a3 : Memref sig .tc .vmem S1x1024x2816 .bf16) (w3 : a3.IsWhole) (a4 : Memref sig .tc .vmem S1x1024x2816 .bf16) (w4 : a4.IsWhole) (a5 : Memref sig .tc .vmem S1x2816x1024 .bf16) (w5 : a5.IsWhole) (a6 : Memref sig .tc .vmem S512x1024 .f32) (w6 : a6.IsWhole) (a7 : Memref sig .tc .vmem S512x1024 .f32) (w7 : a7.IsWhole)
    (x0 : Vec F S512x1024 .f32) (x1 : Vec F S1x1024 .f32) (x2 x3 : Vec F S1x1024x2816 .bf16) (x4 : Vec F S1x2816x1024 .bf16) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a7 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a7 fullShare (stored x0 x1 x2 x3 x4)) -∗ K ⟨⟩))
      ⊢ wp frame (wpE (defs₀ (F := F)) Variants.none c none) E (cc0_ffn i a1 w1 a2 w2 a3 w3 a4 w4 a5 w5 a6 w6 a7 w7) K := by
  simp only [cc0_ffn_eq_skeleton]; unfold cc0_ffn_skel
  simp only [k0_part1_eq_skeleton, k0_part2_eq_skeleton]
  unfold owns
  iintro ⟨⟨%f0, %e0, H0⟩, ⟨%f1, %e1, H1⟩, ⟨%f2, %e2, H2⟩, ⟨%f3, %e3, H3⟩, ⟨%f4, %e4, H4⟩, ⟨%d, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (store_covers _)).trans rfl

/-! ## What the buffers hold from point to point -/

/-- The point whose block the first output's buffer holds after point `t`: `t` itself up to 31, then 31. -/
def held (t : Fin cfg0.N) : Fin cfg0.N := ⟨min t.val 31, Nat.lt_of_le_of_lt (Nat.min_le_left _ _) t.isLt⟩

/-- What a point stores, from the arrays as the region finds them. -/
def storedAt (c : Dev nD) (t : Fin cfg0.N) : Vec F S512x1024 .f32 :=
  stored (iblk m c 0 t) (iblk m c 1 t) (iblk m c 2 t) (iblk m c 3 t) (iblk m c 4 t)

/-- The contents of the arrays and of the buffers along the run: an input's buffer holds its block, the first output's
    the rows of the point held, the second output's the rows of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => storedAt m c (held t)
    | ⟨6, _⟩ => storedAt m c t
  Φ _ := Pipeline.ΦA spec0 c
  q _ := fullShare
  owed _ := 0

/-- The arrays at the region's entry. -/
theorem entry (c : Dev nD) (w : Fin cfg0.W) : (dats m 0 c).A w = V m c (Pipeline.arrRef spec0 w) := by dsimp only [dats]

/-- The rows' buffer after a point. -/
theorem after0 (c : Dev nD) (t : Fin cfg0.N) : (dats m 0 c).after 0 t = iblk m c 0 t := by dsimp only [dats]
/-- The gains' buffer after a point. -/
theorem after1 (c : Dev nD) (t : Fin cfg0.N) : (dats m 0 c).after 1 t = iblk m c 1 t := by dsimp only [dats]
/-- The gate weights' buffer after a point. -/
theorem after2 (c : Dev nD) (t : Fin cfg0.N) : (dats m 0 c).after 2 t = iblk m c 2 t := by dsimp only [dats]
/-- The up weights' buffer after a point. -/
theorem after3 (c : Dev nD) (t : Fin cfg0.N) : (dats m 0 c).after 3 t = iblk m c 3 t := by dsimp only [dats]
/-- The down weights' buffer after a point. -/
theorem after4 (c : Dev nD) (t : Fin cfg0.N) : (dats m 0 c).after 4 t = iblk m c 4 t := by dsimp only [dats]
/-- The first output's buffer after a point. -/
theorem after5 (c : Dev nD) (t : Fin cfg0.N) : (dats m 0 c).after 5 t = storedAt m c (held t) := by dsimp only [dats]
/-- The second output's buffer after a point. -/
theorem after6 (c : Dev nD) (t : Fin cfg0.N) : (dats m 0 c).after 6 t = storedAt m c t := by dsimp only [dats]

/-- The rows' buffer before a point. -/
theorem before0 (c : Dev nD) (t : Fin cfg0.N) (d) : (dats m 0 c).before 0 t d = iblk m c 0 t :=
  before0_0_of m (dats m 0 c) (entry m c 0) (after0 m c) t d
/-- The gains' buffer before a point. -/
theorem before1 (c : Dev nD) (t : Fin cfg0.N) (d) : (dats m 0 c).before 1 t d = iblk m c 1 t :=
  before0_1_of m (dats m 0 c) (entry m c 1) (after1 m c) t d
/-- The gate weights' buffer before a point. -/
theorem before2 (c : Dev nD) (t : Fin cfg0.N) (d) : (dats m 0 c).before 2 t d = iblk m c 2 t :=
  before0_2_of m (dats m 0 c) (entry m c 2) (after2 m c) t d
/-- The up weights' buffer before a point. -/
theorem before3 (c : Dev nD) (t : Fin cfg0.N) (d) : (dats m 0 c).before 3 t d = iblk m c 3 t :=
  before0_3_of m (dats m 0 c) (entry m c 3) (after3 m c) t d
/-- The down weights' buffer before a point. -/
theorem before4 (c : Dev nD) (t : Fin cfg0.N) (d) : (dats m 0 c).before 4 t d = iblk m c 4 t :=
  before0_4_of m (dats m 0 c) (entry m c 4) (after4 m c) t d

/-! ## The schedule -/

/-- The first condition holds at the first 32 points. -/
theorem first_iff : ∀ t : Fin cfg0.N, k0_cond1 (grid0.coords t) = 1#1 ↔ t.val < 32 :=
  (by decide +kernel : ∀ t : Fin grid0.N, k0_cond1 (grid0.coords t) = 1#1 ↔ t.val < 32)
/-- The second condition holds at the others. -/
theorem second_iff : ∀ t : Fin cfg0.N, k0_cond2 (grid0.coords t) = 1#1 ↔ ¬ t.val < 32 :=
  (by decide +kernel : ∀ t : Fin grid0.N, k0_cond2 (grid0.coords t) = 1#1 ↔ ¬ t.val < 32)
/-- The first output is idle from point 32 on. -/
theorem idle_first : ∀ t : Fin cfg0.N, cfg0.idle 5 (grid0.coords t) = decide (¬ t.val < 32) :=
  (by decide +kernel : ∀ t : Fin grid0.N, idle0 5 (grid0.coords t) = decide (¬ t.val < 32))
/-- The second output is idle up to point 31. -/
theorem idle_second : ∀ t : Fin cfg0.N, cfg0.idle 6 (grid0.coords t) = decide (t.val < 32) :=
  (by decide +kernel : ∀ t : Fin grid0.N, idle0 6 (grid0.coords t) = decide (t.val < 32))
/-- The first output is written back at the points below 31 and at the last one. -/
theorem flush_first : ∀ t : Fin cfg0.N, (cfg0.win 5).flush t = decide (t.val < 31 ∨ t.val = 95) :=
  (by decide +kernel : ∀ t : Fin grid0.N, win0_5.flush t = decide (t.val < 31 ∨ t.val = 95))
/-- The second output is written back at the points from 32 on. -/
theorem flush_second : ∀ t : Fin cfg0.N, (cfg0.win 6).flush t = decide (¬ t.val < 32) :=
  (by decide +kernel : ∀ t : Fin grid0.N, win0_6.flush t = decide (¬ t.val < 32))

/-- From point 32 on the first output's buffer holds something stored. -/
theorem not_fresh : ∀ n, n + 32 < 96 → cfg0.fresh 5 (n + 32) = false
  | 0, _ => by
    rw [Cfg.fresh_succ cfg0 5 31 (by decide), flush_first, idle_first]; rfl
  | n + 1, h => by
    rw [show n + 1 + 32 = (n + 32) + 1 from by omega, Cfg.fresh_succ cfg0 5 (n + 32) (show n + 32 < cfg0.N from by rw [show cfg0.N = 96 from N_0]; omega), not_fresh n (by omega), flush_first,
      Bool.and_false, Bool.or_false]
    exact decide_eq_false (by show ¬ (n + 32 < 31 ∨ n + 32 = 95); omega)

/-- From point 32 on the first output's buffer is found as it is to be left. -/
theorem before5 (c : Dev nD) (t : Fin cfg0.N) (ht : ¬ t.val < 32) (d) : (dats m 0 c).before 5 t d = (dats m 0 c).after 5 t := by
  have hN : t.val < 96 := lt_of_lt_of_eq t.isLt N_0
  have carry : ∀ s : Fin cfg0.N, ¬ s.val < 32 → ∀ h, held s = held ⟨s.val - 1, h⟩ := fun s hs h =>
    Fin.ext (show min s.val 31 = min (s.val - 1) 31 by omega)
  rw [(dats m 0 c).before_out_traj 5 rfl (fun _ _ => rfl) ?_ t.val t rfl d,
    if_neg (by rw [show t.val = (t.val - 32) + 32 from by omega, not_fresh _ (by omega)]; exact Bool.false_ne_true), after5, after5, carry t ht]
  intro s _ hs _
  rw [after5, after5, carry s]
  exact of_decide_eq_true ((idle_first s).symm.trans hs)

/-! ## The body at a grid point -/

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

/-- At a point that stores into an output, or writes it back, the buffer is left at its stated contents. -/
theorem leaves_after (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · cases cfg0.idle w (cfg0.grid.coords t)
    · rfl
    · rw [h]

/-- From point 32 on the first output's buffer is handed back as found. -/
theorem leaves_first (c : Dev nD) (t : Fin cfg0.N) (ht : ¬ t.val < 32) :
    iprop(∃ d, owns (c : Thread nD τ) (st0_5 t) fullShare ((dats m 0 c).before 5 t d)) ⊢ (dats m 0 c).leavesExact 5 t := by
  cases hf : (cfg0.win 5).flush t
  · rw [Dat.leavesExact_idle _ 5 t ((idle_first t).trans (decide_eq_true ht)) hf]
  · rw [leaves_after m c 5 t (.inr hf)]
    simp only [before5 m c t ht]
    iintro ⟨%d, H⟩
    iexact H

/-- The body at any point. -/
theorem body_at (c : Dev nD) (t : Fin cfg0.N) :
    bodyPre m c t ⊢ wp frame (wpE (defs₀ (F := F)) Variants.none c none) Set.univ (bodyAt0 t) (fun _ => bodyPost m c t) := by
  by_cases ht : t.val < 32
  · have e5 := leaves_after m c 5 t (.inl ((idle_first t).trans (decide_eq_false (not_not.mpr ht))))
    have e6 := Dat.leavesExact_idle (dats m 0 c) 6 t ((idle_second t).trans (decide_eq_true ht)) ((flush_second t).trans (decide_eq_false (not_not.mpr ht)))
    unfold bodyPre bodyPost bodyAt0
    simp only [before0, before1, before2, before3, before4]
    rw [show (dats m 0 c).Φ t.succ = (dats m 0 c).Φ t.castSucc from rfl,
      show (dats m 0 c).owesAt () t.succ = (dats m 0 c).owesAt () t.castSucc from rfl, e5, e6,
      after0, after1, after2, after3, after4, after5, show held t = t from Fin.ext (show min t.val 31 = t.val by omega)]
    iintro ⟨HΦ, Ho, ⟨%d0, H0⟩, ⟨%d1, H1⟩, ⟨%d2, H2⟩, ⟨%d3, H3⟩, ⟨%d4, H4⟩, ⟨%d5, H5⟩, H6⟩
    iapply (body_first c Set.univ (grid0.coords t) ((first_iff t).mpr ht) (fun h => (second_iff t).mp h ht) _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have e5 := leaves_first m c t ht
    have e6 := leaves_after m c 6 t (.inl ((idle_second t).trans (decide_eq_false ht)))
    unfold bodyPre bodyPost bodyAt0
    simp only [before0, before1, before2, before3, before4]
    rw [show (dats m 0 c).Φ t.succ = (dats m 0 c).Φ t.castSucc from rfl,
      show (dats m 0 c).owesAt () t.succ = (dats m 0 c).owesAt () t.castSucc from rfl, e6,
      after0, after1, after2, after3, after4, after6]
    iintro ⟨HΦ, Ho, ⟨%d0, H0⟩, ⟨%d1, H1⟩, ⟨%d2, H2⟩, ⟨%d3, H3⟩, ⟨%d4, H4⟩, H5, ⟨%d6, H6⟩⟩
    iapply (body_second c Set.univ (grid0.coords t) (fun h => ht ((first_iff t).mp h)) ((second_iff t).mpr ht) _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H6]; · iexists _; iexact H6
    iintro ⟨H0, H1, H2, H3, H4, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply e5; iexact H5
    iexact H6

/-- The body the pipeline calls at a point. -/
theorem body_row (t : Fin cfg0.N) : defs₀ (F := F) .tc cfg0.body (cfg0.bodyArgs t (cfg0.slots t)) = bodyAt0 t := by
  unfold defs₀; rw [Defs.onTc_tc]

/-- The body meets the pipeline's obligation at every point. -/
theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
set_option maxHeartbeats 800000 in
/-- The run, with the arrays at what the write-backs leave and every semaphore at zero. -/
theorem run_quiet : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := entry m) (hΦ := fun _ _ => rfl)

/-- The run, with the arrays at what the write-backs leave. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The arguments end as they were and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (entry m) (run m ρ)) ((θ_run defs _ _).mono (fun _ h => h.2) (run_quiet m ρ))

end Cert.FfnTwo.Ideal

end
-- ==== Proof.FfnTwoKernel.lean ====
module

public import proofs.«01_k».proof.Proof.FfnTwoIdealFrame
public import proofs.«01_k».proof.Proof.FfnMath

@[expose] public section

/-! The block of the two-output feed-forward kernel at an index. -/

set_option maxRecDepth 16384

noncomputable section

namespace Cert.FfnTwo

open Cert.Kernel5Ideal Cert.Kernel5Ideal.Gen Idealize.ShloMosaic Idealize.ShloMosaic.TcCoe Idealize.SL.Sem
open Idealize.ShloMosaic.Pipeline (Dat)
open Cert.FfnMath
open Cert.FfnTwo.Ideal (rows gains in0 in1 in2 dn0 dn1 dn2 normed fed stored)

/-- The normalised row. -/
theorem norm_at (x : FVec Ideal S512x1024 .f32) (g : FVec Ideal S1x1024 .f32) (j : S512x1024.Idx) :
    k0_pay2 (F := Ideal) x g j = normRow (fun d => x (ix2 (j 0) d)) (fun d => g (ix2 0 d)) (j 1) := by
  pointwise [k0_pay2, normRow]

/-- The first chunk of the hidden units, added to the row. -/
theorem first_at (x : FVec Ideal S512x1024 .f32) (g : FVec Ideal S1x1024 .f32) (wg wu wd : FVec Ideal S1x1024x1024 .bf16) (j : S512x1024.Idx) :
    k0_pay3 (F := Ideal) x g wg wu wd j = x j + ∑ f : Fin 1024,
      unitOf (fun d => k0_pay2 (F := Ideal) x g (ix2 (j 0) d)) (fun d => wg (ix3 0 d f)) (fun d => wu (ix3 0 d f)) * wd (ix3 0 f (j 1)) := by
  pointwise [k0_pay3, k0_pay2, unitOf, gateOf, zero_sub]

/-- The second chunk of the hidden units. -/
theorem second_at (h : FVec Ideal S512x1024 .bf16) (y : FVec Ideal S512x1024 .f32) (wg wu wd : FVec Ideal S1x1024x1024 .bf16) (j : S512x1024.Idx) :
    k0_pay4 (F := Ideal) h y wg wu wd j = y j + ∑ f : Fin 1024,
      unitOf (fun d => h (ix2 (j 0) d)) (fun d => wg (ix3 0 d f)) (fun d => wu (ix3 0 d f)) * wd (ix3 0 f (j 1)) := by
  pointwise [k0_pay4, unitOf, gateOf, zero_sub]

/-- The last chunk of the hidden units. -/
theorem last_at (h : FVec Ideal S512x1024 .bf16) (y : FVec Ideal S512x1024 .f32) (wg wu : FVec Ideal S1x1024x768 .bf16)
    (wd : FVec Ideal S1x768x1024 .bf16) (j : S512x1024.Idx) :
    k0_pay1 (F := Ideal) y (k0_pay5 (F := Ideal) h wg wu) wd j = y j + ∑ f : Fin 768,
      unitOf (fun d => h (ix2 (j 0) d)) (fun d => wg (ix3 0 d f)) (fun d => wu (ix3 0 d f)) * wd (ix3 0 f (j 1)) := by
  pointwise [k0_pay1, k0_pay5, unitOf, gateOf, zero_sub]

/-- The block a grid point writes, at a row and a channel of it. -/
theorem block_at (x : FVec Ideal S512x1024 .f32) (g : FVec Ideal S1x1024 .f32) (wg wu : FVec Ideal S1x1024x2816 .bf16)
    (wd : FVec Ideal S1x2816x1024 .bf16) (j : S512x1024.Idx) :
    stored (F := Ideal) x g wg wu wd j
      = ffn (fun d => x (ix2 (j 0) d)) (fun d => g (ix2 0 d)) (fun d f => wg (ix3 0 d f)) (fun d f => wu (ix3 0 d f))
          (fun f => wd (ix3 0 f (j 1))) (j 1) := by
  have ex : ∀ i, View.ld (Val := Elt Ideal) (e' := .f32) x rows i = x i := by intro i; pointwise
  have eg : ∀ i, View.ld (Val := Elt Ideal) (e' := .f32) g gains i = g i := by
    intro i
    pointwise
    refine congrArg g ?_
    funext a; match a with | ⟨0, _⟩ => exact Fin.ext (by have := (i 0).isLt; simp at this ⊢) | ⟨1, _⟩ => rfl
  have w0 : ∀ (w : FVec Ideal S1x1024x2816 .bf16) (d f : Fin 1024), View.ld (Val := Elt Ideal) (e' := .bf16) w in0 (ix3 0 d f) = w (ix3 0 d ⟨f.val, by omega⟩) := by
    intro w d f; pointwise
  have w1 : ∀ (w : FVec Ideal S1x1024x2816 .bf16) (d f : Fin 1024), View.ld (Val := Elt Ideal) (e' := .bf16) w in1 (ix3 0 d f) = w (ix3 0 d ⟨1024 + f.val, by omega⟩) := by
    intro w d f; pointwise
  have w2 : ∀ (w : FVec Ideal S1x1024x2816 .bf16) (d : Fin 1024) (f : Fin 768), View.ld (Val := Elt Ideal) (e' := .bf16) w in2 (ix3 0 d f) = w (ix3 0 d ⟨2048 + f.val, by omega⟩) := by
    intro w d f; pointwise
  have d0 : ∀ (f c : Fin 1024), View.ld (Val := Elt Ideal) (e' := .bf16) wd dn0 (ix3 0 f c) = wd (ix3 0 ⟨f.val, by omega⟩ c) := by intro f c; pointwise
  have d1 : ∀ (f c : Fin 1024), View.ld (Val := Elt Ideal) (e' := .bf16) wd dn1 (ix3 0 f c) = wd (ix3 0 ⟨1024 + f.val, by omega⟩ c) := by intro f c; pointwise
  have d2 : ∀ (f : Fin 768) (c : Fin 1024), View.ld (Val := Elt Ideal) (e' := .bf16) wd dn2 (ix3 0 f c) = wd (ix3 0 ⟨2048 + f.val, by omega⟩ c) := by intro f c; pointwise
  unfold stored
  canon_tiles z hz
  have e : z = j := by
    funext a; match a with | ⟨0, _⟩ => exact Fin.ext hz0.symm | ⟨1, _⟩ => exact Fin.ext hz1.symm
  subst e
  unfold fed normed
  rw [last_at, second_at, first_at]
  simp only [norm_at, ex, eg]
  unfold ffn
  rw [← sum_chunks]
  refine congrArg₂ (· + ·) (congrArg₂ (· + ·) (congrArg₂ (· + ·) ?_ ?_) ?_) ?_
  · exact congrArg x (by funext a; match a with | ⟨0, _⟩ => rfl | ⟨1, _⟩ => rfl)
  · refine Finset.sum_congr rfl fun f _ => congrArg₂ (· * ·) ?_ (d0 f (z 1))
    exact congr (congr (congrArg unitOf rfl) (funext fun d => w0 wg d f)) (funext fun d => w0 wu d f)
  · refine Finset.sum_congr rfl fun f _ => congrArg₂ (· * ·) ?_ (d1 f (z 1))
    exact congr (congr (congrArg unitOf rfl) (funext fun d => w1 wg d f)) (funext fun d => w1 wu d f)
  · refine Finset.sum_congr rfl fun f _ => congrArg₂ (· * ·) ?_ (d2 f (z 1))
    exact congr (congr (congrArg unitOf rfl) (funext fun d => w2 wg d f)) (funext fun d => w2 wu d f)

end Cert.FfnTwo

end
-- ==== Proof.FfnTwoRef.lean ====
module

public import proofs.«01_k».proof.Proof.Gen.Reference5Ideal.Run
public import proofs.«01_k».proof.Proof.Gen.Reference5Ideal.Read
public import proofs.«01_k».proof.Proof.FfnMath

@[expose] public section

/-! The reference's feed-forward block of the last layer read at an index. -/

set_option maxRecDepth 16384

noncomputable section

namespace Cert.FfnTwo.Ref

open Cert.FfnMath
open Cert Cert.Reference5Ideal Cert.Reference5Ideal.Gen Cert.Reference5Ideal.Read Idealize.ShloMosaic Idealize.ShloMosaic.TcCoe Idealize.SL.Sem

variable (x0 : (⟨S49152x1024, .f32⟩ : BufTy).Contents (Elt Ideal)) (x1 : (⟨S2x1024, .f32⟩ : BufTy).Contents (Elt Ideal))
  (x2 x3 : (⟨S2x1024x2816, .f32⟩ : BufTy).Contents (Elt Ideal)) (x4 : (⟨S2x2816x1024, .f32⟩ : BufTy).Contents (Elt Ideal))

/-- The normalised row. -/
theorem norm_at (j : S49152x1024.Idx) :
    val_main_v14 (F := Ideal) x0 x1 j = normRow (fun d => x0 (ix2 (j 0) d)) (fun d => x1 (ix2 1 d)) (j 1) := by
  pointwise [val_main_v0, val_main_v1, val_main_v2, val_main_v3, val_main_v4, val_main_v5, val_main_v6, val_main_v7,
    val_main_v8, val_main_v9, val_main_v10, val_main_v11, val_main_v12, val_main_v13, val_main_v14, val_main_cst,
    val_main_cst_0, val_main_cst_1, normRow]

/-- A hidden unit. -/
theorem unit_at (j : S49152x2816.Idx) : val_main_v22 (F := Ideal) x0 x1 x2 x3 j
    = unitOf (normRow (fun d => x0 (ix2 (j 0) d)) (fun d => x1 (ix2 1 d))) (fun d => x2 (ix3 1 d (j 1))) (fun d => x3 (ix3 1 d (j 1))) := by
  pointwise [val_main_v22, val_main_v18, val_main_v21, val_main_v17, val_main_v20, val_main_v19, val_main_v16, val_main_v15,
    val_main_call0_v5, val_main_call0_v4, val_main_call0_v3, val_main_call0_v2, val_main_call0_v1, val_main_call0_v0,
    val_main_call0_cst, val_main_call0_cst_0, norm_at, unitOf, gateOf]

/-- The reference at a place. -/
theorem ref_at (j : S49152x1024.Idx) : val_main_v26 (F := Ideal) x0 x1 x2 x3 x4 j
    = ffn (fun d => x0 (ix2 (j 0) d)) (fun d => x1 (ix2 1 d)) (fun d f => x2 (ix3 1 d f)) (fun d f => x3 (ix3 1 d f))
        (fun f => x4 (ix3 1 f (j 1))) (j 1) := by
  pointwise [val_main_v26, val_main_v25, val_main_v24, val_main_v23, unit_at, ffn]

end Cert.FfnTwo.Ref

end
-- ==== Proof.FfnTwoValue.lean ====
module

public import proofs.«01_k».proof.Defs
public import proofs.«01_k».proof.Proof.FfnTwoKernel
public import proofs.«01_k».proof.Proof.FfnTwoRef
public import Idealize.ShloMosaic.Lib.Claim

@[expose] public section

/-! The two results of the last feed-forward kernel are the reference's, and the claim that says so. -/

set_option maxRecDepth 16384

noncomputable section

namespace Cert.FfnTwo

open Cert.Kernel5Ideal Cert.Kernel5Ideal.Gen Idealize.ShloMosaic Idealize.ShloMosaic.TcCoe Idealize.SL.Sem
open Idealize.ShloMosaic.Pipeline (Dat)
open Cert.FfnMath
open Cert.FfnTwo.Ideal

variable (m : (ℓ : Loc nD τ sig) → Buf (Elt Ideal) ℓ)

/-- The reference's rows, as a function of the five arguments. -/
abbrev REF (x0 : FVec Ideal S49152x1024 .f32) (x1 : FVec Ideal S2x1024 .f32) (x2 x3 : FVec Ideal S2x1024x2816 .f32)
    (x4 : FVec Ideal S2x2816x1024 .f32) : FVec Ideal S49152x1024 .f32 :=
  Cert.Reference5Ideal.Read.val_main_v26 (F := Ideal) x0 x1 x2 x3 x4

/-- The reference's rows below 16384. -/
abbrev REFA (x0 : FVec Ideal S49152x1024 .f32) (x1 : FVec Ideal S2x1024 .f32) (x2 x3 : FVec Ideal S2x1024x2816 .f32)
    (x4 : FVec Ideal S2x2816x1024 .f32) : FVec Ideal S16384x1024 .f32 :=
  Cert.Reference5Ideal.Read.val_main_v27 (F := Ideal) x0 x1 x2 x3 x4

/-- The reference's rows from 16384 on. -/
abbrev REFB (x0 : FVec Ideal S49152x1024 .f32) (x1 : FVec Ideal S2x1024 .f32) (x2 x3 : FVec Ideal S2x1024x2816 .f32)
    (x4 : FVec Ideal S2x2816x1024 .f32) : FVec Ideal S32768x1024 .f32 :=
  Cert.Reference5Ideal.Read.val_main_v29 (F := Ideal) x0 x1 x2 x3 x4

/-- Where each input's block lies at a grid point. -/
theorem idx : ∀ t : Fin cfg0.N, win0_0.index t = ![t.val, 0] ∧ win0_1.index t = ![0, 0] ∧ win0_2.index t = ![1, 0, 0]
    ∧ win0_3.index t = ![1, 0, 0] ∧ win0_4.index t = ![1, 0, 0] :=
  (by decide +kernel : ∀ t : Fin grid0.N, win0_0.index t = ![t.val, 0] ∧ win0_1.index t = ![0, 0] ∧ win0_2.index t = ![1, 0, 0]
    ∧ win0_3.index t = ![1, 0, 0] ∧ win0_4.index t = ![1, 0, 0])

/-- Where each output's block lies at a grid point. -/
theorem idx_out : ∀ t : Fin cfg0.N, win0_5.index t = ![min t.val 31, 0] ∧ win0_6.index t = ![t.val - 32, 0] :=
  (by decide +kernel : ∀ t : Fin grid0.N, win0_5.index t = ![min t.val 31, 0] ∧ win0_6.index t = ![t.val - 32, 0])

/-- The row of gains as the region finds it: the last layer's row of the argument. -/
theorem gain_entry (c : Dev nD) (j : S1x1024.Idx) : (V m c main_v2 : FVec Ideal S1x1024 .f32) j = m ((c : Thread nD τ).loc main_arg1) (ix2 1 (j 1)) := by
  have e : (V m c main_v2 : FVec Ideal S1x1024 .f32) = broadcastInDim S1x1024 ![1] bcast_S1024_S1x1024_1
      (shapeCast S1024 (extractStridedSlice S1x1024 ![1, 0] (m ((c : Thread nD τ).loc main_arg1)) slices_S2x1024_S1x1024_1_0) shapeCasts_S1x1024_S1024) := by
    unfold V V0
    simp only [hostOps0, List.flatten_cons, List.flatten_nil, List.append_nil]
    after_results_simp
    rfl
  rw [e]
  pointwise

/-- What a grid point stores, at a place of the block. -/
theorem point (c : Dev nD) (t : Fin cfg0.N) (y : S512x1024.Idx) (j : S49152x1024.Idx)
    (hj0 : (j 0 : ℕ) = t.val * 512 + y 0) (hj1 : (j 1 : ℕ) = y 1) :
    storedAt m c t y
      = REF (m ((c : Thread nD τ).loc main_arg0)) (m ((c : Thread nD τ).loc main_arg1))
        (m ((c : Thread nD τ).loc main_arg2)) (m ((c : Thread nD τ).loc main_arg3)) (m ((c : Thread nD τ).loc main_arg4)) j := by
  rw [REF, storedAt, block_at, Ref.ref_at]
  have e1 : (y 1 : Fin 1024) = j 1 := Fin.ext hj1.symm
  have hx : (fun d : Fin 1024 => iblk m c 0 t (ix2 (y 0) d)) = fun d => m ((c : Thread nD τ).loc main_arg0) (ix2 (j 0) d) := by
    funext d; blk_point [iblk, V, idx t]
  have hg : (fun d : Fin 1024 => iblk m c 1 t (ix2 0 d)) = fun d => m ((c : Thread nD τ).loc main_arg1) (ix2 1 d) := by
    funext d
    refine (gain_entry m c _).trans (congrArg (m ((c : Thread nD τ).loc main_arg1)) ?_)
    refine congrArg (ix2 (1 : Fin 2)) (Fin.ext ?_)
    blk_simp [idx t] <;> try omega
  have h2 : (fun (d : Fin 1024) (f : Fin 2816) => iblk m c 2 t (ix3 0 d f)) = fun d f => m ((c : Thread nD τ).loc main_arg2) (ix3 1 d f) := by
    funext d f; blk_point [iblk, V, idx t]
  have h3 : (fun (d : Fin 1024) (f : Fin 2816) => iblk m c 3 t (ix3 0 d f)) = fun d f => m ((c : Thread nD τ).loc main_arg3) (ix3 1 d f) := by
    funext d f; blk_point [iblk, V, idx t]
  have h4 : (fun (f : Fin 2816) => iblk m c 4 t (ix3 0 f (y 1))) = fun f => m ((c : Thread nD τ).loc main_arg4) (ix3 1 f (j 1)) := by
    funext f; blk_point [iblk, V, idx t]
  rw [hx, hg, h2, h3, h4, e1]

/-- The first output's blocks, each written by the point whose rows its buffer held, cover the array. -/
theorem final_first (c : Dev nD) : (dats m 0 c).arrAt 5 (cfgs 0).N
    = REFA (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  rw [after5]
  have hp : ∀ (j : S16384x1024.Idx), (j 0 : ℕ) = min t.val 31 * 512 + y 0 → (j 1 : ℕ) = y 1 → storedAt m c (held t) y
      = REFA (m ((c : Thread nD τ).loc main_arg0)) (m ((c : Thread nD τ).loc main_arg1))
        (m ((c : Thread nD τ).loc main_arg2)) (m ((c : Thread nD τ).loc main_arg3)) (m ((c : Thread nD τ).loc main_arg4)) j := by
    intro j h0 h1
    rw [REFA, Cert.Reference5Ideal.Read.val_main_v27_apply]
    exact point m c (held t) y _ h0 h1
  generalize REFA (m ((c : Thread nD τ).loc main_arg0)) (m ((c : Thread nD τ).loc main_arg1))
    (m ((c : Thread nD τ).loc main_arg2)) (m ((c : Thread nD τ).loc main_arg3)) (m ((c : Thread nD τ).loc main_arg4)) = R at hp ⊢
  generalize storedAt m c (held t) = o at hp ⊢
  refine hp _ ?_ ?_
  · blk_simp [idx_out t] <;> try omega
  · blk_simp [idx_out t] <;> try omega

/-- The second output's blocks cover the array. -/
theorem final_second (c : Dev nD) : (dats m 0 c).arrAt 6 (cfgs 0).N
    = REFB (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : ¬ t.val < 32 := of_decide_eq_true ((flush_second t).symm.trans hf)
  rw [after6]
  have hp : ∀ (j : S32768x1024.Idx), (j 0 : ℕ) = (t.val - 32) * 512 + y 0 → (j 1 : ℕ) = y 1 → storedAt m c t y
      = REFB (m ((c : Thread nD τ).loc main_arg0)) (m ((c : Thread nD τ).loc main_arg1))
        (m ((c : Thread nD τ).loc main_arg2)) (m ((c : Thread nD τ).loc main_arg3)) (m ((c : Thread nD τ).loc main_arg4)) j := by
    intro j h0 h1
    rw [REFB, Cert.Reference5Ideal.Read.val_main_v29_apply]
    refine point m c t y _ ?_ h1
    show 16384 + (j 0 : ℕ) = t.val * 512 + y 0
    omega
  generalize REFB (m ((c : Thread nD τ).loc main_arg0)) (m ((c : Thread nD τ).loc main_arg1))
    (m ((c : Thread nD τ).loc main_arg2)) (m ((c : Thread nD τ).loc main_arg3)) (m ((c : Thread nD τ).loc main_arg4)) = R at hp ⊢
  generalize storedAt m c t = o at hp ⊢
  refine hp _ ?_ ?_
  · blk_simp [idx_out t] <;> try omega
  · blk_simp [idx_out t] <;> try omega

/-- The first result is the first output's array, split by batch and position. -/
theorem tail_first (c : Dev nD) : Pipeline.afterTail₀ cfgs (dats m) 0 (V0 m) [hostOps1] c main_v7
    = shapeCast S4x4096x1024 ((dats m 0 c).arrAt 5 (cfgs 0).N) shapeCasts_S16384x1024_S4x4096x1024 := by
  unfold Pipeline.afterTail₀
  simp only [hostOps1, List.flatten_cons, List.flatten_nil, List.append_nil]
  after_results_simp
  exact congrArg (fun v : FVec Ideal S16384x1024 .f32 => shapeCast S4x4096x1024 v shapeCasts_S16384x1024_S4x4096x1024)
    (Pipeline.withArrays_arr spec0 launch0.win.arr_inj c (V0 m c) _ 5)

/-- The second result is the second output's array, split by batch and position. -/
theorem tail_second (c : Dev nD) : Pipeline.afterTail₀ cfgs (dats m) 0 (V0 m) [hostOps1] c main_v8
    = shapeCast S8x4096x1024 ((dats m 0 c).arrAt 6 (cfgs 0).N) shapeCasts_S32768x1024_S8x4096x1024 := by
  unfold Pipeline.afterTail₀
  simp only [hostOps1, List.flatten_cons, List.flatten_nil, List.append_nil]
  after_results_simp
  exact congrArg (fun v : FVec Ideal S32768x1024 .f32 => shapeCast S8x4096x1024 v shapeCasts_S32768x1024_S8x4096x1024)
    (Pipeline.withArrays_arr spec0 launch0.win.arr_inj c (V0 m c) _ 6)

/-- The run, with the two results named and the arguments as they were. -/
theorem run_results (ρ : Dev nD → PrngReg) : θ_run defs (onTc (τ := τ) (main (F := Ideal))) ⟨m, fun _ => 0, ρ⟩ fun r => ∀ c : Dev nD,
      r.2.mem ((c : Thread nD τ).loc main_v7) = shapeCast S4x4096x1024 ((dats m 0 c).arrAt 5 (cfgs 0).N) shapeCasts_S16384x1024_S4x4096x1024
      ∧ r.2.mem ((c : Thread nD τ).loc main_v8) = shapeCast S8x4096x1024 ((dats m 0 c).arrAt 6 (cfgs 0).N) shapeCasts_S32768x1024_S8x4096x1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have args := (θ_run defs _ _).mono (fun _ h => h.1) (Cert.FfnTwo.Ideal.frame m ρ)
  refine (θ_run defs _ _).mono (fun r h c => ?_) (θ_run_and (Cert.FfnTwo.Ideal.run m ρ) args)
  exact ⟨((h.1 c).2 main_v7 (Pipeline.mem_restRefs_of main_v7 (by decide) (by decide))).trans (tail_first m c),
    ((h.1 c).2 main_v8 (Pipeline.mem_restRefs_of main_v8 (by decide) (by decide))).trans (tail_second m c), h.2 c⟩

/-- At the ideal values the kernel computes the reference's two results. -/
theorem algebraic : Cert.algebraic_Kernel5Ideal_Reference5Ideal := by
  pair_intro
  · run_from run_results m g
  · run_from Cert.Reference5Ideal.Value.run m' g'
    all_goals obtain ⟨e0, e1, e2, e3, e4⟩ := hagree c
    · rw [Cert.Reference5Ideal.Read.val_main_v28_eq, final_first m c]
      rfl
    · rw [Cert.Reference5Ideal.Read.val_main_v30_eq, final_second m c]
      rfl

end Cert.FfnTwo

end
-- ==== Proof.ShiftMath.lean ====
module

public import proofs.«01_k».proof.Proof.AttnAMath
public import proofs.«01_k».proof.Proof.AttnCRef

@[expose] public section

/-! Subtracting a real number from every score of a softmax to the base two changes nothing. -/

noncomputable section

namespace Cert.SoftmaxMath

open Idealize.ShloMosaic

variable {ι : Type} [Fintype ι] [Nonempty ι]

/-- A shifted power of two. -/
theorem shift_pow (s M : ℝ) : Ideal.exp2 ((s : EReal) - (M : EReal)) = (((2 : ℝ) ^ s * (2 : ℝ) ^ (-M) : ℝ) : EReal) := by
  rw [← EReal.coe_sub, Ideal.exp2_coe, ← Real.rpow_add (by norm_num), ← sub_eq_add_neg]
  rfl

/-- The sum of the shifted powers of two. -/
theorem shift_sum (s : ι → ℝ) (M : ℝ) :
    (∑ k, Ideal.exp2 ((s k : EReal) - (M : EReal))) = (((∑ k, (2 : ℝ) ^ s k) * (2 : ℝ) ^ (-M) : ℝ) : EReal) := by
  rw [Finset.sum_mul, ← coe_sum]
  refine Finset.sum_congr rfl fun k _ => ?_
  exact shift_pow _ _

/-- A shifted power of two times the reciprocal of their sum is the softmax's weight. -/
theorem shift_weight (s : ι → ℝ) (M : ℝ) (n : ι) :
    Ideal.exp2 ((s n : EReal) - (M : EReal)) * Ideal.div 1 (∑ k, Ideal.exp2 ((s k : EReal) - (M : EReal)))
      = (((2 : ℝ) ^ s n / ∑ k, (2 : ℝ) ^ s k : ℝ) : EReal) := by
  have hpos : 0 < ∑ k, (2 : ℝ) ^ s k := Finset.sum_pos (fun k _ => Real.rpow_pos_of_pos (by norm_num) _) Finset.univ_nonempty
  have hM : 0 < (2 : ℝ) ^ (-M) := Real.rpow_pos_of_pos (by norm_num) _
  rw [shift_sum, Ideal.div_coe (by positivity), one_mul, shift_pow, ← EReal.coe_mul, mul_one_div]
  exact congrArg _ (mul_div_mul_right _ _ hM.ne')

/-- The difference of two shifted softmaxes applied to the values, as the unshifted powers of two give it. -/
theorem diff_shift (s0 s1 : ι → ℝ) (M0 M1 : ℝ) (lam : EReal) (v : ι → EReal) :
    (∑ n, (Ideal.exp2 ((s0 n : EReal) - (M0 : EReal)) * Ideal.div 1 (∑ k, Ideal.exp2 ((s0 k : EReal) - (M0 : EReal)))
        - Ideal.exp2 ((s1 n : EReal) - (M1 : EReal)) * (lam * Ideal.div 1 (∑ k, Ideal.exp2 ((s1 k : EReal) - (M1 : EReal))))) * v n)
      = (∑ n, (Ideal.exp2 (s0 n) - Ideal.div (lam * ∑ k, Ideal.exp2 (s0 k)) (∑ k, Ideal.exp2 (s1 k)) * Ideal.exp2 (s1 n)) * v n)
        * Ideal.div 1 (∑ k, Ideal.exp2 (s0 k)) := by
  rw [diff_softmax s0 s1 0 0 lam v]
  simp only [softmax_shift]
  refine Finset.sum_congr rfl fun n _ => ?_
  rw [shift_weight, mul_left_comm, shift_weight, mul_comm]

/-- A shifted softmax applied to the values and divided once at the end, as the unshifted powers of two give it. -/
theorem mean_shift (s : ι → ℝ) (M : ℝ) (v : ι → EReal) :
    (∑ n, Ideal.exp2 ((s n : EReal) - (M : EReal)) * v n) * Ideal.div 1 (∑ k, Ideal.exp2 ((s k : EReal) - (M : EReal)))
      = (∑ n, Ideal.exp2 (s n) * v n) * Ideal.div 1 (∑ k, Ideal.exp2 (s k)) := by
  rw [Cert.AttnC.softmax_mean s 0 v]
  simp only [softmax_shift]
  have hpos : 0 < ∑ k, (2 : ℝ) ^ s k := Finset.sum_pos (fun k _ => Real.rpow_pos_of_pos (by norm_num) _) Finset.univ_nonempty
  have hM : 0 < (2 : ℝ) ^ (-M) := Real.rpow_pos_of_pos (by norm_num) _
  have hd : Ideal.div 1 (∑ k, Ideal.exp2 ((s k : EReal) - (M : EReal))) = ((1 / ((∑ k, (2 : ℝ) ^ s k) * (2 : ℝ) ^ (-M)) : ℝ) : EReal) := by
    rw [shift_sum, Ideal.div_coe (by positivity), one_mul]
  have hw := shift_weight s M
  rw [hd] at hw ⊢
  rw [sum_mul_coe _ _ (by positivity)]
  refine Finset.sum_congr rfl fun n _ => ?_
  rw [mul_right_comm, hw, mul_comm]

end Cert.SoftmaxMath

end
-- ==== Proof.AttnAShiftKernel.lean ====
module

public import proofs.«01_k».proof.Proof.Gen.Kernel7Ideal.Value
public import proofs.«01_k».proof.Proof.AttnAKernel
public import proofs.«01_k».proof.Proof.AttnARef
public import proofs.«01_k».proof.Proof.ShiftMath
public import Idealize.ShloMosaic.Lib.Pointwise
public import Idealize.ShloMosaic.Lib.Pipeline.ValueKit

@[expose] public section

/-! The differential attention kernel on the path that subtracts each row's maximum: its four heads are one function of
    their slices; this module names it and reads it at an index. -/

set_option maxRecDepth 16384

noncomputable section

namespace Cert.AttnAShift

open Cert.Kernel7Ideal Cert.Kernel7Ideal.Gen Idealize.ShloMosaic Idealize.ShloMosaic.TcCoe Idealize.SL.Sem
open Idealize.ShloMosaic.Pipeline (Dat)
open Cert.AttnA (lamOf normed)

/-- One head: from the weight `lam` of the second softmax and the head's queries, keys, values and gain. -/
def head (lam : FVec Ideal S1x1 .f32) (q : FVec Ideal S256x128 .bf16) (k v : FVec Ideal S4096x128 .bf16)
    (g : FVec Ideal S1x128 .f32) : FVec Ideal S256x128 .bf16 :=
  k0_pay8 (F := Ideal) (k0_pay7 lam (k0_pay3 q k) (k0_pay4 q k)) v g

/-- The lane numbers. -/
abbrev lanes : IVec S256x128 32 := iota .tc S256x128 32 [1] iota_S256x128_d1_w32

/-- The first head of a grid point, as a function of its loads. -/
theorem head0 (lam : FVec Ideal S1x1 .f32) (q : FVec Ideal S256x128 .bf16) (k v : FVec Ideal S4096x128 .bf16)
    (g : FVec Ideal S1x128 .f32) :
    k0_pay8 (F := Ideal) (k0_pay7 lam (k0_pay3 q k) (k0_pay4 q k)) v g = head lam q k v g := rfl

/-- The second head of a grid point, as a function of its loads. -/
theorem head1 (lam : FVec Ideal S1x1 .f32) (q : FVec Ideal S256x128 .bf16) (k v : FVec Ideal S4096x128 .bf16)
    (g : FVec Ideal S1x128 .f32) :
    k0_pay12 (F := Ideal) lam (k0_pay5 lanes q k) (k0_pay6 lanes q k) (k0_pay11 (k0_pay5 lanes q k)) v g = head lam q k v g := rfl

/-- The third head of a grid point, as a function of its loads. -/
theorem head2 (lam : FVec Ideal S1x1 .f32) (q : FVec Ideal S256x128 .bf16) (k v : FVec Ideal S4096x128 .bf16)
    (g : FVec Ideal S1x128 .f32) :
    k0_pay18 (F := Ideal) (k0_pay15 (k0_pay10 lanes q k)) (k0_pay16 (k0_pay9 lanes q k)) (k0_pay17 lam (k0_pay10 lanes q k)) v g
      = head lam q k v g := rfl

/-- The fourth head of a grid point, as a function of its loads. -/
theorem head3 (lam : FVec Ideal S1x1 .f32) (q : FVec Ideal S256x128 .bf16) (k v : FVec Ideal S4096x128 .bf16)
    (g : FVec Ideal S1x128 .f32) :
    k0_pay1 (F := Ideal) lam (k0_pay19 (k0_pay14 lanes q k)) (k0_pay20 (k0_pay14 lanes q k)) (k0_pay21 (k0_pay13 lanes q k)) v g
      = head lam q k v g := rfl

/-- The scores over the first half of the lanes. -/
theorem score0_at (q : FVec Ideal S256x128 .bf16) (k : FVec Ideal S4096x128 .bf16) (j : S256x4096.Idx) :
    k0_pay3 (F := Ideal) q k j = ∑ d : Fin 64, q (ix2 (j 0) ⟨d.val, by omega⟩) * k (ix2 (j 1) ⟨d.val, by omega⟩) := by
  pointwise [k0_pay3]
  rw [Fin.sum_univ_two_halves 64 64 rfl]
  rw [Finset.sum_eq_zero (s := Finset.univ) (f := fun x : Fin 64 => Scalar.select _ (q (ix2 (j 0) ⟨64 + x.val, _⟩) * _) _)]
  · rw [add_zero]
    refine Finset.sum_congr rfl fun x _ => ?_
    rw [show IntOp.andi (IntOp.cmpi CmpIPredicate.sge (BitVec.ofNat 32 x.val) 0#32)
      (IntOp.cmpi CmpIPredicate.slt (BitVec.ofNat 32 x.val) 64#32) = 1#1 by revert x; decide +kernel]
    rfl
  · intro x _
    rw [show IntOp.andi (IntOp.cmpi CmpIPredicate.sge (BitVec.ofNat 32 (64 + x.val)) 0#32)
      (IntOp.cmpi CmpIPredicate.slt (BitVec.ofNat 32 (64 + x.val)) 64#32) = 0#1 by revert x; decide +kernel]
    rfl

/-- The scores over the second half of the lanes. -/
theorem score1_at (q : FVec Ideal S256x128 .bf16) (k : FVec Ideal S4096x128 .bf16) (j : S256x4096.Idx) :
    k0_pay4 (F := Ideal) q k j = ∑ d : Fin 64, q (ix2 (j 0) ⟨64 + d.val, by omega⟩) * k (ix2 (j 1) ⟨64 + d.val, by omega⟩) := by
  pointwise [k0_pay4]
  rw [Fin.sum_univ_two_halves 64 64 rfl]
  rw [Finset.sum_eq_zero (s := Finset.univ) (f := fun x : Fin 64 => Scalar.select _ (q (ix2 (j 0) ⟨x.val, _⟩) * _) _)]
  · rw [zero_add]
    refine Finset.sum_congr rfl fun x _ => ?_
    rw [show IntOp.andi (IntOp.cmpi CmpIPredicate.sge (BitVec.ofNat 32 (64 + x.val)) 64#32)
      (IntOp.cmpi CmpIPredicate.slt (BitVec.ofNat 32 (64 + x.val)) 128#32) = 1#1 by revert x; decide +kernel]
    rfl
  · intro x _
    rw [show IntOp.andi (IntOp.cmpi CmpIPredicate.sge (BitVec.ofNat 32 x.val) 64#32)
      (IntOp.cmpi CmpIPredicate.slt (BitVec.ofNat 32 x.val) 128#32) = 0#1 by revert x; decide +kernel]
    rfl

/-- The product of the weights and the values at a place, normalised. -/
theorem out_at (w : FVec Ideal S256x4096 .bf16) (v : FVec Ideal S4096x128 .bf16)
    (g : FVec Ideal S1x128 .f32) (j : S256x128.Idx) :
    k0_pay8 (F := Ideal) w v g j
      = normed (fun e => ∑ n : Fin 4096, w (ix2 (j 0) n) * v (ix2 n e)) (g (ix2 0 (j 1))) (j 1) := by
  pointwise [k0_pay8, normed]

/-- The kernel's lambda. -/
theorem lam_at (p : FVec Ideal S4x64 .f32) (j : S1x1.Idx) : k0_pay2 (F := Ideal) p j = lamOf p := by
  pointwise [k0_pay2, lamOf]

/-- The greatest score of a row. -/
def rowMax (s : FVec Ideal S256x4096 .f32) (r : Fin 256) : EReal :=
  multiReduction (F := Ideal) .maximumf [1] S256 s 0xFF800000#32 reduces_S256x4096_S256 (.inl rfl) rfl (ix1 r)

/-- The difference of the two softmaxes' weights. -/
theorem w_at (lam : FVec Ideal S1x1 .f32) (s0 s1 : FVec Ideal S256x4096 .f32) (j : S256x4096.Idx) :
    k0_pay7 (F := Ideal) lam s0 s1 j
      = Ideal.exp2 (s0 j - rowMax s0 (j 0)) * Ideal.div 1 (∑ n : Fin 4096, Ideal.exp2 (s0 (ix2 (j 0) n) - rowMax s0 (j 0)))
        - Ideal.exp2 (s1 j - rowMax s1 (j 0))
          * (lam (ix2 0 0) * Ideal.div 1 (∑ n : Fin 4096, Ideal.exp2 (s1 (ix2 (j 0) n) - rowMax s1 (j 0)))) := by
  pointwise [k0_pay7, rowMax]
  rfl

/-- The greatest of a row of real scores is real. -/
theorem rowMax_real (s : FVec Ideal S256x4096 .f32) (r : Fin 256) (hs : ∀ n, ∃ x : ℝ, s (ix2 r n) = (x : EReal)) :
    ∃ M : ℝ, rowMax s r = (M : EReal) := by
  unfold rowMax
  pointwise
  choose y hy using hs
  obtain ⟨M, hM⟩ := SoftmaxMath.fold_max_real Finset.univ Finset.univ_nonempty y
  refine ⟨M, Eq.trans ?_ hM⟩
  rw [AttnA.Ref.neg_inf]
  exact congrArg (fun f => Finset.fold max (⊥ : EReal) f Finset.univ) (funext hy)

/-- A head at an index of its block, from real scores. -/
theorem head_at (lam : FVec Ideal S1x1 .f32) (q : FVec Ideal S256x128 .bf16) (k v : FVec Ideal S4096x128 .bf16)
    (g : FVec Ideal S1x128 .f32) (r : Fin 256) (l : Fin 128) (s0 s1 : Fin 4096 → ℝ)
    (h0 : ∀ n, ∑ d : Fin 64, q (ix2 r ⟨d.val, by omega⟩) * k (ix2 n ⟨d.val, by omega⟩) = (s0 n : EReal))
    (h1 : ∀ n, ∑ d : Fin 64, q (ix2 r ⟨64 + d.val, by omega⟩) * k (ix2 n ⟨64 + d.val, by omega⟩) = (s1 n : EReal)) :
    head lam q k v g (ix2 r l) = normed (fun e => (∑ n : Fin 4096, (Ideal.exp2 (s0 n)
        - Ideal.div (lam (ix2 0 0) * ∑ n : Fin 4096, Ideal.exp2 (s0 n)) (∑ n : Fin 4096, Ideal.exp2 (s1 n)) * Ideal.exp2 (s1 n)) * v (ix2 n e))
          * Ideal.div 1 (∑ n : Fin 4096, Ideal.exp2 (s0 n))) (g (ix2 0 l)) l := by
  have a0 : ∀ n, k0_pay3 (F := Ideal) q k (ix2 r n) = (s0 n : EReal) := fun n => (score0_at q k (ix2 r n)).trans (h0 n)
  have a1 : ∀ n, k0_pay4 (F := Ideal) q k (ix2 r n) = (s1 n : EReal) := fun n => (score1_at q k (ix2 r n)).trans (h1 n)
  obtain ⟨M0, hM0⟩ := rowMax_real (k0_pay3 (F := Ideal) q k) r fun n => ⟨_, a0 n⟩
  obtain ⟨M1, hM1⟩ := rowMax_real (k0_pay4 (F := Ideal) q k) r fun n => ⟨_, a1 n⟩
  unfold head
  rw [out_at]
  refine congrArg (fun f => normed f _ _) (funext fun e => Eq.trans ?_ (SoftmaxMath.diff_shift s0 s1 M0 M1 (lam (ix2 0 0)) fun n => v (ix2 n e)))
  refine Finset.sum_congr rfl fun n _ => congrArg (· * _) ?_
  rw [w_at]
  show Ideal.exp2 (k0_pay3 (F := Ideal) q k (ix2 r n) - rowMax _ r) * Ideal.div 1 (∑ n : Fin 4096, Ideal.exp2 (k0_pay3 (F := Ideal) q k (ix2 r n) - rowMax _ r))
    - Ideal.exp2 (k0_pay4 (F := Ideal) q k (ix2 r n) - rowMax _ r)
      * (lam (ix2 0 0) * Ideal.div 1 (∑ n : Fin 4096, Ideal.exp2 (k0_pay4 (F := Ideal) q k (ix2 r n) - rowMax _ r))) = _
  simp only [a0, a1, hM0, hM1]

end Cert.AttnAShift

end
-- ==== Proof.AttnAShiftValue.lean ====
module

public import proofs.«01_k».proof.Proof.AttnAShiftKernel
public import proofs.«01_k».proof.Proof.AttnAClaim

@[expose] public section

/-! The result array of the attention kernel that subtracts each row's maximum is the reference's, and the claim that says so. -/

set_option maxRecDepth 16384

noncomputable section

namespace Cert.AttnAShift

open Cert.Kernel7Ideal Cert.Kernel7Ideal.Gen Idealize.ShloMosaic Idealize.ShloMosaic.TcCoe Idealize.SL.Sem
open Idealize.ShloMosaic.Pipeline (Dat)
open Cert.AttnA (lamOf normed REF real_of_pre)
open Cert.AttnA.Ref (score)

variable (m : (ℓ : Loc nD τ sig) → Buf (Elt Ideal) ℓ)

/-- Where each window's block lies at a grid point. -/
theorem idx : ∀ t : Fin cfg0.N, win0_0.index t = ![0, 0] ∧ win0_1.index t = ![t.val, 0] ∧ win0_2.index t = ![t.val / 16, 0]
    ∧ win0_3.index t = ![t.val / 16, 0] ∧ win0_4.index t = ![0, 0] ∧ win0_5.index t = ![t.val, 0] :=
  (by decide +kernel : ∀ t : Fin grid0.N, win0_0.index t = ![0, 0] ∧ win0_1.index t = ![t.val, 0] ∧ win0_2.index t = ![t.val / 16, 0]
    ∧ win0_3.index t = ![t.val / 16, 0] ∧ win0_4.index t = ![0, 0] ∧ win0_5.index t = ![t.val, 0])

/-- One head of one block: its slices of the block's queries, keys and values give the reference there. -/
theorem core (c : Dev nD) (t : Fin cfg0.N)
    (hq : ∀ i, ∃ r : ℝ, m ((c : Thread nD τ).loc main_arg0) i = (r : EReal))
    (hk : ∀ i, ∃ r : ℝ, m ((c : Thread nD τ).loc main_arg1) i = (r : EReal))
    (h : Fin 4) (x : S256x128.Idx) (j : S49152x512.Idx)
    (hj0 : (j 0 : ℕ) = t.val * 256 + x 0) (hj1 : (j 1 : ℕ) = h * 128 + x 1)
    (lam : FVec Ideal S1x1 .f32) (q : FVec Ideal S256x128 .bf16) (k v : FVec Ideal S4096x128 .bf16) (g : FVec Ideal S1x128 .f32)
    (elam : ∀ i, lam i = lamOf (m ((c : Thread nD τ).loc main_arg3)))
    (eq : ∀ (a : Fin 256) (d : Fin 128), q (ix2 a d) = m ((c : Thread nD τ).loc main_arg0) (ix2 ⟨t.val * 256 + a.val, by have := t.isLt; have : cfg0.N = 192 := rfl; omega⟩ ⟨h.val * 128 + d.val, by omega⟩))
    (ek : ∀ (a : Fin 4096) (d : Fin 128), k (ix2 a d) = m ((c : Thread nD τ).loc main_arg1) (ix2 ⟨t.val / 16 * 4096 + a.val, by have := t.isLt; have : cfg0.N = 192 := rfl; omega⟩ ⟨h.val * 128 + d.val, by omega⟩))
    (ev : ∀ (a : Fin 4096) (d : Fin 128), v (ix2 a d) = m ((c : Thread nD τ).loc main_arg2) (ix2 ⟨t.val / 16 * 4096 + a.val, by have := t.isLt; have : cfg0.N = 192 := rfl; omega⟩ ⟨h.val * 128 + d.val, by omega⟩))
    (eg : ∀ (d : Fin 128), g (ix2 0 d) = m ((c : Thread nD τ).loc main_arg4) (ix2 0 d)) :
    head lam q k v g x = REF (m ((c : Thread nD τ).loc main_arg0)) (m ((c : Thread nD τ).loc main_arg1))
      (m ((c : Thread nD τ).loc main_arg2)) (m ((c : Thread nD τ).loc main_arg3)) (m ((c : Thread nD τ).loc main_arg4)) j := by
  have ht : t.val < 192 := t.isLt
  obtain ⟨r, l, rfl⟩ : ∃ (r : Fin 256) (l : Fin 128), x = ix2 r l := ⟨x 0, x 1, by
    funext a; match a with | ⟨0, _⟩ => rfl | ⟨1, _⟩ => rfl⟩
  have hr := r.isLt
  rw [REF, Cert.AttnA.Ref.ref_at _ _ _ _ _ hq hk ⟨t.val / 16, by omega⟩ h ⟨t.val % 16 * 256 + r.val, by omega⟩ l j
    (by rw [hj0]; show t.val * 256 + r.val = t.val / 16 * 4096 + (t.val % 16 * 256 + r.val); omega) hj1]
  have hs : ∀ (c' : Fin 2) (n : Fin 4096), ∃ s : ℝ, score (m ((c : Thread nD τ).loc main_arg0)) (m ((c : Thread nD τ).loc main_arg1))
      ⟨t.val / 16, by omega⟩ h c' ⟨t.val % 16 * 256 + r.val, by omega⟩ n = (s : EReal) := fun c' n =>
    SoftmaxMath.dot_real _ _ (fun _ => hq _) fun _ => hk _
  choose s es using hs
  rw [head_at lam q k v g r l (s 0) (s 1)]
  · simp only [elam, eg, ev, ← es]
  · intro n
    rw [← es]
    refine Finset.sum_congr rfl fun d _ => congrArg₂ (· * ·) ?_ ?_
    · refine (eq r ⟨d.val, by omega⟩).trans ?_
      blk_ext
    · refine (ek n ⟨d.val, by omega⟩).trans ?_
      blk_ext
  · intro n
    rw [← es]
    refine Finset.sum_congr rfl fun d _ => congrArg₂ (· * ·) ?_ ?_
    · refine (eq r ⟨64 + d.val, by omega⟩).trans ?_
      blk_ext
    · refine (ek n ⟨64 + d.val, by omega⟩).trans ?_
      blk_ext

/-- What a grid point leaves in its block, at a place of the block. -/
theorem point (c : Dev nD) (t : Fin cfg0.N)
    (hq : ∀ i, ∃ r : ℝ, m ((c : Thread nD τ).loc main_arg0) i = (r : EReal))
    (hk : ∀ i, ∃ r : ℝ, m ((c : Thread nD τ).loc main_arg1) i = (r : EReal)) (y : S256x512.Idx) (j : S49152x512.Idx)
    (hj0 : (j 0 : ℕ) = t.val * 256 + y 0) (hj1 : (j 1 : ℕ) = y 1) :
    out0_5 (iblk m c 0 t) (iblk m c 1 t) (iblk m c 2 t) (iblk m c 3 t) (iblk m c 4 t) y
      = REF (m ((c : Thread nD τ).loc main_arg0)) (m ((c : Thread nD τ).loc main_arg1))
        (m ((c : Thread nD τ).loc main_arg2)) (m ((c : Thread nD τ).loc main_arg3)) (m ((c : Thread nD τ).loc main_arg4)) j := by
  canon_tiles x h
  case piece0 =>
    refine (congrFun (head3 (k0_pay2 (F := Ideal) (View.ld (iblk m c 0 t) r0_0)) (View.ld (iblk m c 1 t) r0_8) (View.ld (iblk m c 2 t) r0_9)
      (View.ld (iblk m c 3 t) r0_9) (View.ld (iblk m c 4 t) r0_5)) x).trans (core m c t hq hk 3 x j ?_ ?_ _ _ _ _ _ ?_ ?_ ?_ ?_ ?_)
    · omega
    · simp only [Fin.isValue]; omega
    · intro i; rw [lam_at]; refine congrArg lamOf ?_; funext z; pointwise; blk_point [iblk, V, idx t]
    · intro a d; pointwise; blk_point [iblk, V, idx t]
    · intro a d; pointwise; blk_point [iblk, V, idx t]
    · intro a d; pointwise; blk_point [iblk, V, idx t]
    · intro d; pointwise; blk_point [iblk, V, idx t]
  case piece1 =>
    refine (congrFun (head2 (k0_pay2 (F := Ideal) (View.ld (iblk m c 0 t) r0_0)) (View.ld (iblk m c 1 t) r0_6) (View.ld (iblk m c 2 t) r0_7)
      (View.ld (iblk m c 3 t) r0_7) (View.ld (iblk m c 4 t) r0_5)) x).trans (core m c t hq hk 2 x j ?_ ?_ _ _ _ _ _ ?_ ?_ ?_ ?_ ?_)
    · omega
    · simp only [Fin.isValue]; omega
    · intro i; rw [lam_at]; refine congrArg lamOf ?_; funext z; pointwise; blk_point [iblk, V, idx t]
    · intro a d; pointwise; blk_point [iblk, V, idx t]
    · intro a d; pointwise; blk_point [iblk, V, idx t]
    · intro a d; pointwise; blk_point [iblk, V, idx t]
    · intro d; pointwise; blk_point [iblk, V, idx t]
  case piece2 =>
    refine (congrFun (head1 (k0_pay2 (F := Ideal) (View.ld (iblk m c 0 t) r0_0)) (View.ld (iblk m c 1 t) r0_3) (View.ld (iblk m c 2 t) r0_4)
      (View.ld (iblk m c 3 t) r0_4) (View.ld (iblk m c 4 t) r0_5)) x).trans (core m c t hq hk 1 x j ?_ ?_ _ _ _ _ _ ?_ ?_ ?_ ?_ ?_)
    · omega
    · simp only [Fin.isValue]; omega
    · intro i; rw [lam_at]; refine congrArg lamOf ?_; funext z; pointwise; blk_point [iblk, V, idx t]
    · intro a d; pointwise; blk_point [iblk, V, idx t]
    · intro a d; pointwise; blk_point [iblk, V, idx t]
    · intro a d; pointwise; blk_point [iblk, V, idx t]
    · intro d; pointwise; blk_point [iblk, V, idx t]
  case piece3 =>
    refine (congrFun (head0 (k0_pay2 (F := Ideal) (View.ld (iblk m c 0 t) r0_0)) (View.ld (iblk m c 1 t) r0_1) (View.ld (iblk m c 2 t) r0_2)
      (View.ld (iblk m c 3 t) r0_2) (View.ld (iblk m c 4 t) r0_5)) x).trans (core m c t hq hk 0 x j ?_ ?_ _ _ _ _ _ ?_ ?_ ?_ ?_ ?_)
    · omega
    · simp only [Fin.isValue]; omega
    · intro i; rw [lam_at]; refine congrArg lamOf ?_; funext z; pointwise; blk_point [iblk, V, idx t]
    · intro a d; pointwise; blk_point [iblk, V, idx t]
    · intro a d; pointwise; blk_point [iblk, V, idx t]
    · intro a d; pointwise; blk_point [iblk, V, idx t]
    · intro d; pointwise; blk_point [iblk, V, idx t]

/-- The output blocks cover the array. -/
theorem final (c : Dev nD) (hq : ∀ i, ∃ r : ℝ, m ((c : Thread nD τ).loc main_arg0) i = (r : EReal))
    (hk : ∀ i, ∃ r : ℝ, m ((c : Thread nD τ).loc main_arg1) i = (r : EReal)) :
    (dats m 0 c).arrAt 5 (cfgs 0).N = REF (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  rw [after0_5]
  refine point m c t hq hk y _ ?_ ?_
  · blk_simp [idx t] <;> try omega
  · blk_simp [idx t] <;> try omega

/-- At the ideal values the kernel that subtracts each row's maximum computes the reference, over finite queries and keys. -/
theorem algebraic : Cert.algebraic_Kernel7Ideal_ReferenceIdeal_pre_finite_qk := by
  pair_intro
  · run_from Cert.Kernel7Ideal.Gen.run_main m g
  · run_from Cert.ReferenceIdeal.Value.run m' g'
    obtain ⟨e0, e1, e2, e3, e4⟩ := hagree c
    rw [Cert.ReferenceIdeal.Read.val_main_v63_eq, e0, e1, e2, e3, e4]
    exact (final m c (fun i => (real_of_pre _ _ _ _ _ (hpre c) i).1) (fun i => (real_of_pre _ _ _ _ _ (hpre c) i).2)).symm

end Cert.AttnAShift

end
-- ==== Proof.AttnCShiftKernel.lean ====
module

public import proofs.«01_k».proof.Proof.Gen.Kernel6Ideal.Value
public import proofs.«01_k».proof.Proof.AttnCKernel
public import proofs.«01_k».proof.Proof.AttnCRef
public import proofs.«01_k».proof.Proof.ShiftMath
public import Idealize.ShloMosaic.Lib.Pointwise
public import Idealize.ShloMosaic.Lib.Pipeline.ValueKit

@[expose] public section

/-! The latent attention kernel on the path that subtracts each row's maximum: its four heads are one function of their
    slices; this module names it and reads it at an index. -/

set_option maxRecDepth 16384

noncomputable section

namespace Cert.AttnCShift

open Cert.Kernel6Ideal Cert.Kernel6Ideal.Gen Idealize.ShloMosaic Idealize.ShloMosaic.TcCoe Idealize.SL.Sem
open Idealize.ShloMosaic.Pipeline (Dat)

/-- The shifted powers of two of the scores of the first 128 rows. -/
def top (s : FVec Ideal S256x4096 .f32) : FVec Ideal S128x4096 .f32 := k0_pay22 (F := Ideal) (k0_pay20 s) (k0_pay21 s)

/-- The shifted powers of two of the scores of the last 128 rows. -/
def low (s : FVec Ideal S256x4096 .f32) : FVec Ideal S128x4096 .f32 := k0_pay29 (F := Ideal) (k0_pay27 s) (k0_pay28 s)

/-- The first rows' powers added up over thirty-two slices of 128 columns. -/
def topSum (s : FVec Ideal S256x4096 .f32) : FVec Ideal S128x128 .f32 :=
  k0_pay25 (F := Ideal) (top s) (k0_pay23 (k0_pay20 s) (k0_pay21 s)) (k0_pay24 (k0_pay20 s) (k0_pay21 s))

/-- One head: from its scores and the 128 value lanes it shares with its neighbour. -/
def head (s : FVec Ideal S256x4096 .f32) (v : FVec Ideal S4096x128 .bf16) : FVec Ideal S256x128 .f32 :=
  k0_pay32 (F := Ideal) v (topSum s) (k0_pay26 v (top s)) (low s) (k0_pay30 (k0_pay27 s) (k0_pay28 s)) (k0_pay31 (k0_pay27 s) (k0_pay28 s))

/-- The first head of a step is the same function. -/
theorem head0 (q : FVec Ideal S256x128 .bf16) (k v : FVec Ideal S4096x128 .bf16) :
    k0_pay18 (F := Ideal) (k0_pay16 v (k0_pay10 v (k0_pay7 (k0_pay4 q k) (k0_pay5 q k) (k0_pay6 q k)))
        (k0_pay14 (k0_pay11 (k0_pay2 q k)) (k0_pay12 (k0_pay2 q k)) (k0_pay13 (k0_pay2 q k))))
      (k0_pay17 (k0_pay9 (k0_pay7 (k0_pay4 q k) (k0_pay5 q k) (k0_pay6 q k)) (k0_pay8 (k0_pay4 q k) (k0_pay5 q k) (k0_pay6 q k)))
        (k0_pay14 (k0_pay11 (k0_pay2 q k)) (k0_pay12 (k0_pay2 q k)) (k0_pay13 (k0_pay2 q k)))
        (k0_pay15 (k0_pay11 (k0_pay2 q k)) (k0_pay12 (k0_pay2 q k)) (k0_pay13 (k0_pay2 q k))))
      = head (k0_pay2 q k) v := rfl

/-- The third head of a step is the same function. -/
theorem head2 (s : FVec Ideal S256x4096 .f32) (v : FVec Ideal S4096x128 .bf16) :
    k0_pay46 (F := Ideal) v (k0_pay39 (k0_pay37 (k0_pay34 s) (k0_pay35 s) (k0_pay36 s)) (k0_pay38 (k0_pay34 s) (k0_pay35 s) (k0_pay36 s)))
      (k0_pay40 v (k0_pay37 (k0_pay34 s) (k0_pay35 s) (k0_pay36 s))) (k0_pay44 (k0_pay41 s) (k0_pay42 s) (k0_pay43 s))
      (k0_pay45 (k0_pay41 s) (k0_pay42 s) (k0_pay43 s)) = head s v := rfl

/-- The fourth head of a step is the same function. -/
theorem head3 (s : FVec Ideal S256x4096 .f32) (v : FVec Ideal S4096x128 .bf16) :
    k0_pay60 (F := Ideal) v
      (k0_pay53 (k0_pay50 (k0_pay47 s) (k0_pay49 (k0_pay47 s) (k0_pay48 s))) (k0_pay51 (k0_pay47 s) (k0_pay49 (k0_pay47 s) (k0_pay48 s)))
        (k0_pay52 (k0_pay47 s) (k0_pay49 (k0_pay47 s) (k0_pay48 s))))
      (k0_pay54 v (k0_pay50 (k0_pay47 s) (k0_pay49 (k0_pay47 s) (k0_pay48 s)))) (k0_pay57 (k0_pay55 s) (k0_pay56 s))
      (k0_pay58 (k0_pay55 s) (k0_pay56 s)) (k0_pay59 (k0_pay55 s) (k0_pay56 s)) = head s v := rfl

/-- The scores. -/
theorem score_at (q : FVec Ideal S256x128 .bf16) (k : FVec Ideal S4096x128 .bf16) (j : S256x4096.Idx) :
    k0_pay2 (F := Ideal) q k j = ∑ d : Fin 128, q (ix2 (j 0) d) * k (ix2 (j 1) d) := by
  pointwise [k0_pay2]

/-- The greater of two reals is real. -/
theorem max_real {x y : EReal} (hx : ∃ a : ℝ, x = (a : EReal)) (hy : ∃ b : ℝ, y = (b : EReal)) : ∃ c : ℝ, max x y = (c : EReal) := by
  obtain ⟨a, rfl⟩ := hx
  obtain ⟨b, rfl⟩ := hy
  exact ⟨max a b, (EReal.coe_strictMono.monotone.map_max).symm⟩

/-- The greatest of a row of reals, begun at minus infinity, is real. -/
theorem fold_real (f : Fin 128 → EReal) (hf : ∀ x, ∃ a : ℝ, f x = (a : EReal)) :
    ∃ M : ℝ, Finset.fold max (Ideal.ofBits .f32 4286578688#32) f Finset.univ = (M : EReal) := by
  choose y hy using hf
  obtain ⟨M, hM⟩ := SoftmaxMath.fold_max_real Finset.univ Finset.univ_nonempty y
  refine ⟨M, Eq.trans ?_ hM⟩
  rw [AttnA.Ref.neg_inf]
  exact congrArg (fun f => Finset.fold max (⊥ : EReal) f Finset.univ) (funext hy)

/-- The powers of the first rows, from a real shift. -/
theorem top_at (s : FVec Ideal S256x4096 .f32) (r : Fin 128) (hs : ∀ n, ∃ x : ℝ, s (ix2 ⟨r.val, by omega⟩ n) = (x : EReal)) :
    ∃ M : ℝ, ∀ n, top s (ix2 r n) = Ideal.exp2 (s (ix2 ⟨r.val, by omega⟩ n) - (M : EReal)) := by
  unfold top k0_pay22 k0_pay21 k0_pay20
  pointwise
  refine (fold_real _ fun x => ?_).imp fun M hM n => congrArg (fun y => Ideal.exp2 (_ - y)) hM
  repeat' first | exact hs _ | apply max_real

/-- The powers of the last rows, from a real shift. -/
theorem low_at (s : FVec Ideal S256x4096 .f32) (r : Fin 128) (hs : ∀ n, ∃ x : ℝ, s (ix2 ⟨128 + r.val, by omega⟩ n) = (x : EReal)) :
    ∃ M : ℝ, ∀ n, low s (ix2 r n) = Ideal.exp2 (s (ix2 ⟨128 + r.val, by omega⟩ n) - (M : EReal)) := by
  unfold low k0_pay29 k0_pay28 k0_pay27
  pointwise
  refine (fold_real _ fun x => ?_).imp fun M hM n => congrArg (fun y => Ideal.exp2 (_ - y)) hM
  repeat' first | exact hs _ | apply max_real

/-- Thirty-two slices of 128 columns added up lane by lane and then over the lanes are the sum over all columns. -/
theorem sum_slices (f : Fin 4096 → EReal) :
    ∑ n, f n = ∑ x : Fin 128, ∑ i : Fin 32, f ⟨i.val * 128 + x.val, by omega⟩ := by
  rw [Fin.sum_univ_tiles 32 128 rfl, Finset.sum_comm]

/-- A head on the first rows, from the powers. -/
theorem head_top (s : FVec Ideal S256x4096 .f32) (v : FVec Ideal S4096x128 .bf16) (r : Fin 256) (l : Fin 128) (hr : r.val < 128) :
    head s v (ix2 r l)
      = (∑ n : Fin 4096, top s (ix2 ⟨r.val, hr⟩ n) * v (ix2 n l)) * Ideal.div 1 (∑ n : Fin 4096, top s (ix2 ⟨r.val, hr⟩ n)) := by
  unfold head topSum k0_pay23 k0_pay24
  have ht : k0_pay22 (F := Ideal) (k0_pay20 s) (k0_pay21 s) = top s := rfl
  rw [ht]
  generalize top s = E
  pointwise [k0_pay32, k0_pay25, k0_pay26]
  refine congrArg₂ (· * ·) (dif_pos hr) (congrArg (Ideal.div 1 ·) (Eq.trans (Finset.sum_congr rfl fun x _ => dif_pos hr) ?_))
  rw [sum_slices]
  refine Finset.sum_congr rfl fun x _ => ?_
  simp only [Fin.sum_univ_castSucc, Fin.sum_univ_zero, zero_add, Fin.val_last, Fin.val_castSucc, Nat.reduceMul, Nat.zero_add, Nat.reduceAdd, Fin.val_zero, Nat.zero_mul]
  try rfl

/-- A head on the last rows, from the powers. -/
theorem head_low (s : FVec Ideal S256x4096 .f32) (v : FVec Ideal S4096x128 .bf16) (r : Fin 256) (l : Fin 128) (hr : ¬ r.val < 128) :
    head s v (ix2 r l)
      = (∑ n : Fin 4096, low s (ix2 ⟨r.val - 128, by omega⟩ n) * v (ix2 n l))
        * Ideal.div 1 (∑ n : Fin 4096, low s (ix2 ⟨r.val - 128, by omega⟩ n)) := by
  unfold head k0_pay30 k0_pay31
  have ht : k0_pay29 (F := Ideal) (k0_pay27 s) (k0_pay28 s) = low s := rfl
  rw [ht]
  generalize low s = E
  generalize topSum s = l0
  generalize top s = E0
  pointwise [k0_pay32]
  refine congrArg₂ (· * ·) (dif_neg hr) (congrArg (Ideal.div 1 ·) (Eq.trans (Finset.sum_congr rfl fun x _ => dif_neg hr) ?_))
  rw [sum_slices]
  refine Finset.sum_congr rfl fun x _ => ?_
  simp only [Fin.sum_univ_castSucc, Fin.sum_univ_zero, zero_add, Fin.val_last, Fin.val_castSucc, Nat.reduceMul, Nat.zero_add, Nat.reduceAdd, Fin.val_zero, Nat.zero_mul]
  try rfl

/-- A head at a row and a lane, from real scores. -/
theorem head_at (q : FVec Ideal S256x128 .bf16) (k v : FVec Ideal S4096x128 .bf16) (r : Fin 256) (l : Fin 128) (s : Fin 4096 → ℝ)
    (hs : ∀ n, ∑ d : Fin 128, q (ix2 r d) * k (ix2 n d) = (s n : EReal)) :
    head (k0_pay2 q k) v (ix2 r l)
      = (∑ n : Fin 4096, Ideal.exp2 (s n) * v (ix2 n l)) * Ideal.div 1 (∑ n : Fin 4096, Ideal.exp2 (s n)) := by
  by_cases h : r.val < 128
  · have a : ∀ n, k0_pay2 (F := Ideal) q k (ix2 r n) = (s n : EReal) := fun n => (score_at q k (ix2 r n)).trans (hs n)
    obtain ⟨M, hM⟩ := top_at (k0_pay2 (F := Ideal) q k) ⟨r.val, h⟩ fun n => ⟨_, a n⟩
    rw [head_top _ _ _ _ h]
    simp only [hM, Fin.eta, a]
    exact SoftmaxMath.mean_shift s M fun n => v (ix2 n l)
  · have e : (⟨128 + (r.val - 128), by omega⟩ : Fin 256) = r := Fin.ext (by show 128 + (r.val - 128) = r.val; omega)
    have a : ∀ n, k0_pay2 (F := Ideal) q k (ix2 ⟨128 + (r.val - 128), by omega⟩ n) = (s n : EReal) := fun n => by
      rw [e]; exact (score_at q k (ix2 r n)).trans (hs n)
    obtain ⟨M, hM⟩ := low_at (k0_pay2 (F := Ideal) q k) ⟨r.val - 128, by omega⟩ fun n => ⟨_, a n⟩
    rw [head_low _ _ _ _ h]
    simp only [hM, a]
    exact SoftmaxMath.mean_shift s M fun n => v (ix2 n l)

/-- The lane numbers. -/
abbrev lanes : IVec S256x128 32 := iota .tc S256x128 32 [1] iota_S256x128_d1_w32

/-- The second store's block takes the third head on the first 64 lanes and the fourth on the others. -/
theorem pick1_at (a b : FVec Ideal S256x128 .f32) (j : S256x128.Idx) :
    k0_pay1 (F := Ideal) lanes a b j = if (j 1).val < 64 then a j else b j := by
  pointwise [k0_pay1]
  split
  · next h => exact (congrArg (Scalar.select · (a j) (b j)) (AttnC.lane_lt (j 1) h)).trans rfl
  · next h => exact (congrArg (Scalar.select · (a j) (b j)) (AttnC.lane_ge (j 1) h)).trans rfl

/-- The first store's block takes the first head on the first 64 lanes and the second on the others. -/
theorem pick0_at (a b : FVec Ideal S256x128 .f32) (j : S256x128.Idx) :
    k0_pay61 (F := Ideal) lanes a b j = if (j 1).val < 64 then a j else b j := by
  pointwise [k0_pay61]
  split
  · next h => exact (congrArg (Scalar.select · (a j) (b j)) (AttnC.lane_lt (j 1) h)).trans rfl
  · next h => exact (congrArg (Scalar.select · (a j) (b j)) (AttnC.lane_ge (j 1) h)).trans rfl

end Cert.AttnCShift

end
-- ==== Proof.AttnCShiftValue.lean ====
module

public import proofs.«01_k».proof.Defs
public import proofs.«01_k».proof.Proof.AttnCShiftKernel
public import proofs.«01_k».proof.Proof.AttnCValue
public import proofs.«01_k».proof.Proof.Gen.Pre_finite_qk_c
public import Idealize.ShloMosaic.Lib.Claim

@[expose] public section

/-! The result array of the latent attention kernel that subtracts each row's maximum is the reference's, and the claim that
    says so. -/

set_option maxRecDepth 16384

noncomputable section

namespace Cert.AttnCShift

open Cert.Kernel6Ideal Cert.Kernel6Ideal.Gen Idealize.ShloMosaic Idealize.ShloMosaic.TcCoe Idealize.SL.Sem
open Idealize.ShloMosaic.Pipeline (Dat)
open Cert.AttnC (REF real_of_pre)
open Cert.AttnC.Ref (score)

variable (m : (ℓ : Loc nD τ sig) → Buf (Elt Ideal) ℓ)

/-- Where each window's block lies at a grid point. -/
theorem idx : ∀ t : Fin cfg0.N, win0_0.index t = ![t.val / 32 * 16 + t.val % 16, t.val / 16 % 2]
    ∧ win0_1.index t = ![t.val / 32, t.val / 16 % 2] ∧ win0_2.index t = ![t.val / 32, t.val / 16 % 2]
    ∧ win0_3.index t = ![t.val / 32 * 16 + t.val % 16, t.val / 16 % 2] :=
  (by decide +kernel : ∀ t : Fin grid0.N, win0_0.index t = ![t.val / 32 * 16 + t.val % 16, t.val / 16 % 2]
    ∧ win0_1.index t = ![t.val / 32, t.val / 16 % 2] ∧ win0_2.index t = ![t.val / 32, t.val / 16 % 2]
    ∧ win0_3.index t = ![t.val / 32 * 16 + t.val % 16, t.val / 16 % 2])

/-- One head of one block: its slices of the block's queries, keys and values give the reference on its lanes. -/
theorem core (c : Dev nD) (t : Fin cfg0.N)
    (hq : ∀ i, ∃ r : ℝ, m ((c : Thread nD τ).loc main_arg0) i = (r : EReal))
    (hk : ∀ i, ∃ r : ℝ, m ((c : Thread nD τ).loc main_arg1) i = (r : EReal))
    (p u : Fin 2) (x : S256x128.Idx) (j : S49152x512.Idx)
    (hj0 : (j 0 : ℕ) = (t.val / 32 * 16 + t.val % 16) * 256 + x 0)
    (hj1 : (j 1 : ℕ) = t.val / 16 % 2 * 256 + p * 128 + x 1) (hu : (x 1 : ℕ) / 64 = u)
    (q : FVec Ideal S256x128 .bf16) (k v : FVec Ideal S4096x128 .bf16)
    (eq : ∀ (a : Fin 256) (d : Fin 128), q (ix2 a d) = m ((c : Thread nD τ).loc main_arg0) (ix2 ⟨(t.val / 32 * 16 + t.val % 16) * 256 + a.val, by have := t.isLt; have : cfg0.N = 384 := rfl; omega⟩ ⟨t.val / 16 % 2 * 512 + (p.val * 2 + u.val) * 128 + d.val, by omega⟩))
    (ek : ∀ (a : Fin 4096) (d : Fin 128), k (ix2 a d) = m ((c : Thread nD τ).loc main_arg1) (ix2 ⟨t.val / 32 * 4096 + a.val, by have := t.isLt; have : cfg0.N = 384 := rfl; omega⟩ ⟨t.val / 16 % 2 * 512 + (p.val * 2 + u.val) * 128 + d.val, by omega⟩))
    (ev : ∀ (a : Fin 4096) (d : Fin 128), v (ix2 a d) = m ((c : Thread nD τ).loc main_arg2) (ix2 ⟨t.val / 32 * 4096 + a.val, by have := t.isLt; have : cfg0.N = 384 := rfl; omega⟩ ⟨t.val / 16 % 2 * 256 + p.val * 128 + d.val, by omega⟩)) :
    head (k0_pay2 (F := Ideal) q k) v x = REF (m ((c : Thread nD τ).loc main_arg0)) (m ((c : Thread nD τ).loc main_arg1))
      (m ((c : Thread nD τ).loc main_arg2)) j := by
  have ht : t.val < 384 := t.isLt
  obtain ⟨r, l, rfl⟩ : ∃ (r : Fin 256) (l : Fin 128), x = ix2 r l := ⟨x 0, x 1, by
    funext a; match a with | ⟨0, _⟩ => rfl | ⟨1, _⟩ => rfl⟩
  have hr := r.isLt; have hl := l.isLt; have hp := p.isLt; have hu' := u.isLt
  have hu : l.val / 64 = u.val := hu
  have hj0 : (j 0 : ℕ) = (t.val / 32 * 16 + t.val % 16) * 256 + r.val := hj0
  have hj1 : (j 1 : ℕ) = t.val / 16 % 2 * 256 + p.val * 128 + l.val := hj1
  rw [REF, AttnC.Ref.ref_at _ _ _ hq hk ⟨t.val / 32, by omega⟩ ⟨t.val / 16 % 2 * 4 + p.val * 2 + u.val, by omega⟩
    ⟨t.val % 16 * 256 + r.val, by omega⟩ ⟨l.val % 64, by omega⟩ j
    (by rw [hj0]; show _ = t.val / 32 * 4096 + (t.val % 16 * 256 + r.val); omega)
    (by rw [hj1]; show _ = (t.val / 16 % 2 * 4 + p.val * 2 + u.val) * 64 + l.val % 64; omega)]
  have hs : ∀ n : Fin 4096, ∃ s : ℝ, score (m ((c : Thread nD τ).loc main_arg0)) (m ((c : Thread nD τ).loc main_arg1)) ⟨t.val / 32, by omega⟩
      ⟨t.val / 16 % 2 * 4 + p.val * 2 + u.val, by omega⟩ ⟨t.val % 16 * 256 + r.val, by omega⟩ n = (s : EReal) := fun n =>
    SoftmaxMath.dot_real _ _ (fun _ => hq _) fun _ => hk _
  choose s es using hs
  rw [head_at q k v r l s]
  · simp only [← es]
    refine congrArg (· * _) (Finset.sum_congr rfl fun n _ => congrArg₂ (· * ·) rfl ?_)
    refine (ev n l).trans ?_
    blk_ext
  · intro n
    rw [← es]
    refine Finset.sum_congr rfl fun d _ => congrArg₂ (· * ·) ?_ ?_
    · refine (eq r d).trans ?_
      blk_ext
    · refine (ek n d).trans ?_
      blk_ext

/-- What a grid point leaves in its block, at a place of the block. -/
theorem point (c : Dev nD) (t : Fin cfg0.N)
    (hq : ∀ i, ∃ r : ℝ, m ((c : Thread nD τ).loc main_arg0) i = (r : EReal))
    (hk : ∀ i, ∃ r : ℝ, m ((c : Thread nD τ).loc main_arg1) i = (r : EReal)) (y : S256x256.Idx) (j : S49152x512.Idx)
    (hj0 : (j 0 : ℕ) = (t.val / 32 * 16 + t.val % 16) * 256 + y 0) (hj1 : (j 1 : ℕ) = t.val / 16 % 2 * 256 + y 1) :
    out0_3 (iblk m c 0 t) (iblk m c 1 t) (iblk m c 2 t) y
      = REF (m ((c : Thread nD τ).loc main_arg0)) (m ((c : Thread nD τ).loc main_arg1)) (m ((c : Thread nD τ).loc main_arg2)) j := by
  canon_tiles x h
  case piece0 =>
    have hx1 : (x 1 : ℕ) < 128 := (x 1).isLt
    refine (pick1_at (head (k0_pay2 (F := Ideal) (View.ld (iblk m c 0 t) r0_5) (View.ld (iblk m c 1 t) r0_6)) (View.ld (iblk m c 2 t) r0_9))
      (head (k0_pay2 (F := Ideal) (View.ld (iblk m c 0 t) r0_7) (View.ld (iblk m c 1 t) r0_8)) (View.ld (iblk m c 2 t) r0_9)) x).trans ?_
    split
    · refine core m c t hq hk 1 0 x j ?_ ?_ ?_ _ _ _ ?_ ?_ ?_
      · omega
      · simp only [Fin.isValue]; omega
      · simp only [Fin.isValue]; omega
      · intro a d; pointwise; blk_point [iblk, V, idx t]
      · intro a d; pointwise; blk_point [iblk, V, idx t]
      · intro a d; pointwise; blk_point [iblk, V, idx t]
    · refine core m c t hq hk 1 1 x j ?_ ?_ ?_ _ _ _ ?_ ?_ ?_
      · omega
      · simp only [Fin.isValue]; omega
      · simp only [Fin.isValue]; omega
      · intro a d; pointwise; blk_point [iblk, V, idx t]
      · intro a d; pointwise; blk_point [iblk, V, idx t]
      · intro a d; pointwise; blk_point [iblk, V, idx t]
  case piece1 =>
    have hx1 : (x 1 : ℕ) < 128 := (x 1).isLt
    refine (pick0_at (head (k0_pay2 (F := Ideal) (View.ld (iblk m c 0 t) r0_0) (View.ld (iblk m c 1 t) r0_1)) (View.ld (iblk m c 2 t) r0_4))
      (head (k0_pay2 (F := Ideal) (View.ld (iblk m c 0 t) r0_2) (View.ld (iblk m c 1 t) r0_3)) (View.ld (iblk m c 2 t) r0_4)) x).trans ?_
    split
    · refine core m c t hq hk 0 0 x j ?_ ?_ ?_ _ _ _ ?_ ?_ ?_
      · omega
      · simp only [Fin.isValue]; omega
      · simp only [Fin.isValue]; omega
      · intro a d; pointwise; blk_point [iblk, V, idx t]
      · intro a d; pointwise; blk_point [iblk, V, idx t]
      · intro a d; pointwise; blk_point [iblk, V, idx t]
    · refine core m c t hq hk 0 1 x j ?_ ?_ ?_ _ _ _ ?_ ?_ ?_
      · omega
      · simp only [Fin.isValue]; omega
      · simp only [Fin.isValue]; omega
      · intro a d; pointwise; blk_point [iblk, V, idx t]
      · intro a d; pointwise; blk_point [iblk, V, idx t]
      · intro a d; pointwise; blk_point [iblk, V, idx t]

/-- The output blocks cover the array. -/
theorem final (c : Dev nD) (hq : ∀ i, ∃ r : ℝ, m ((c : Thread nD τ).loc main_arg0) i = (r : EReal))
    (hk : ∀ i, ∃ r : ℝ, m ((c : Thread nD τ).loc main_arg1) i = (r : EReal)) :
    (dats m 0 c).arrAt 3 (cfgs 0).N = REF (m ((c : Thread nD τ).loc main_arg0)) (m ((c : Thread nD τ).loc main_arg1))
      (m ((c : Thread nD τ).loc main_arg2)) := by
  refine (dats m 0 c).arrAt_eq_of_covers 3 _ (by decide +kernel) fun t _ y => ?_
  rw [after0_3]
  have hp := point m c t hq hk y
  generalize REF (m ((c : Thread nD τ).loc main_arg0)) (m ((c : Thread nD τ).loc main_arg1))
    (m ((c : Thread nD τ).loc main_arg2)) = R at hp ⊢
  generalize out0_3 (iblk m c 0 t) (iblk m c 1 t) (iblk m c 2 t) = o at hp ⊢
  refine hp _ ?_ ?_
  · blk_simp [idx t] <;> try omega
  · blk_simp [idx t] <;> try omega

/-- At the ideal values the kernel that subtracts each row's maximum computes the reference, over finite queries and keys. -/
theorem algebraic : Cert.algebraic_Kernel6Ideal_Reference3Ideal_pre_finite_qk_c := by
  pair_intro
  · run_from Cert.Kernel6Ideal.Gen.run_main m g
  · run_from Cert.Reference3Ideal.Value.run m' g'
    obtain ⟨e0, e1, e2⟩ := hagree c
    rw [Cert.Reference3Ideal.Read.val_main_v24_eq]
    exact (final m c (fun i => (real_of_pre _ _ _ (hpre c) i).1) (fun i => (real_of_pre _ _ _ (hpre c) i).2)).symm

end Cert.AttnCShift

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_qk
public import proofs.«01_k».proof.Proof.Gen.Pre_finite_qk_c
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.AttnAClaim
public import proofs.«01_k».proof.Proof.FfnValue
public import proofs.«01_k».proof.Proof.AttnCValue
public import proofs.«01_k».proof.Proof.MergeValue
public import proofs.«01_k».proof.Proof.FfnTwoFrame
public import proofs.«01_k».proof.Proof.FfnTwoIdealFrame
public import proofs.«01_k».proof.Proof.FfnTwoValue
public import proofs.«01_k».proof.Proof.AttnAShiftValue
public import proofs.«01_k».proof.Proof.AttnCShiftValue
public import Idealize.ShloMosaic.Adequacy
public import Idealize.ShloMosaic.Init

@[expose] public section

noncomputable section

namespace Cert.Proof

open Idealize.ShloMosaic Idealize.SL.Sem

/-- The reference of the differential attention leaves its arguments as they were. -/
theorem frame_reference : Cert.quiescent_ReferenceIdeal (hReferenceIdeal := Cert.ReferenceIdeal.Gen.facts) := by
  intro m g _
  refine (θ_run Cert.ReferenceIdeal.defs _ _).mono
    (fun r h => ⟨h, sem_eq_zero_of_no_sems (by decide) r.2⟩) (?_ : θ_run _ _ _ fun r => ∀ c, _)
  hlo_run

/-- The reference of the feed-forward block leaves its arguments as they were. -/
theorem frame_reference2 : Cert.quiescent_Reference2Ideal (hReference2Ideal := Cert.Reference2Ideal.Gen.facts) := by
  intro m g _
  refine (θ_run Cert.Reference2Ideal.defs _ _).mono
    (fun r h => ⟨h, sem_eq_zero_of_no_sems (by decide) r.2⟩) (?_ : θ_run _ _ _ fun r => ∀ c, _)
  hlo_run

/-- The reference of the latent attention leaves its arguments as they were. -/
theorem frame_reference3 : Cert.quiescent_Reference3Ideal (hReference3Ideal := Cert.Reference3Ideal.Gen.facts) := by
  intro m g _
  refine (θ_run Cert.Reference3Ideal.defs _ _).mono
    (fun r h => ⟨h, sem_eq_zero_of_no_sems (by decide) r.2⟩) (?_ : θ_run _ _ _ fun r => ∀ c, _)
  hlo_run

/-- The reference of the merge leaves its arguments as they were. -/
theorem frame_reference4 : Cert.quiescent_Reference4Ideal (hReference4Ideal := Cert.Reference4Ideal.Gen.facts) := by
  intro m g _
  refine (θ_run Cert.Reference4Ideal.defs _ _).mono
    (fun r h => ⟨h, sem_eq_zero_of_no_sems (by decide) r.2⟩) (?_ : θ_run _ _ _ fun r => ∀ c, _)
  hlo_run

/-- The reference of the last feed-forward block leaves its arguments as they were. -/
theorem frame_reference5 : Cert.quiescent_Reference5Ideal (hReference5Ideal := Cert.Reference5Ideal.Gen.facts) := by
  intro m g _
  refine (θ_run Cert.Reference5Ideal.defs _ _).mono
    (fun r h => ⟨h, sem_eq_zero_of_no_sems (by decide) r.2⟩) (?_ : θ_run _ _ _ fun r => ∀ c, _)
  hlo_run

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Kernel7.Gen.facts, Cert.Kernel7Ideal.Gen.facts,
  Cert.Pre_finite_qk.Gen.facts, Cert.Pre_finite_qk_c.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  fun m ρ _ => Cert.Kernel2.Gen.frame m ρ,
  fun m ρ _ => Cert.Kernel2Ideal.Gen.frame m ρ,
  fun m ρ _ => frame_reference2 m ρ trivial,
  fun m ρ _ => Cert.Kernel3.Gen.frame m ρ,
  fun m ρ _ => Cert.Kernel3Ideal.Gen.frame m ρ,
  fun m ρ _ => Cert.Kernel3Ideal.Gen.frame m ρ,
  fun m ρ _ => frame_reference3 m ρ trivial,
  fun m ρ _ => frame_reference3 m ρ trivial,
  fun m ρ _ => Cert.Kernel4.Gen.frame m ρ,
  fun m ρ _ => Cert.Kernel4Ideal.Gen.frame m ρ,
  fun m ρ _ => frame_reference4 m ρ trivial,
  fun m ρ _ => Cert.FfnTwo.Plain.frame m ρ,
  fun m ρ _ => Cert.FfnTwo.Ideal.frame m ρ,
  fun m ρ _ => frame_reference5 m ρ trivial,
  fun m ρ _ => Cert.Kernel6.Gen.frame m ρ,
  fun m ρ _ => Cert.Kernel6Ideal.Gen.frame m ρ,
  fun m ρ _ => Cert.Kernel6Ideal.Gen.frame m ρ,
  fun m ρ _ => Cert.Kernel7.Gen.frame m ρ,
  fun m ρ _ => Cert.Kernel7Ideal.Gen.frame m ρ,
  fun m ρ _ => Cert.Kernel7Ideal.Gen.frame m ρ,
  trivial, Cert.AttnA.algebraic,
  trivial, Cert.Ffn.algebraic,
  trivial, Cert.AttnC.algebraic,
  trivial, Cert.Merge.algebraic,
  trivial, Cert.FfnTwo.algebraic,
  trivial, Cert.AttnCShift.algebraic,
  trivial, Cert.AttnAShift.algebraic⟩

end Cert.Proof

end
